-- ==== Defs.lean ====
def Pre_Kernel [hPre_some_block_used : Cert.Pre_some_block_used.Facts] (m : (ℓ : Loc Cert.Kernel.nD Cert.Kernel.τ Cert.Kernel.sig) → Buf (Elt Bits) ℓ) : Prop :=
  ∀ c : Dev Cert.Kernel.nD,
    (Cert.Pre_some_block_used.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_some_block_used : Cert.Pre_some_block_used.Facts] (m : (ℓ : Loc Cert.KernelIdeal.nD Cert.KernelIdeal.τ Cert.KernelIdeal.sig) → Buf (Elt Ideal) ℓ) : Prop :=
  ∀ c : Dev Cert.KernelIdeal.nD,
    (Cert.Pre_some_block_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_block_used [hPre_some_block_used : Cert.Pre_some_block_used.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_block_used.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_some_block_used : Cert.Pre_some_block_used.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_some_block_used : Cert.Pre_some_block_used.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_some_block_used [hReferenceIdeal : Cert.ReferenceIdeal.Facts] [hPre_some_block_used : Cert.Pre_some_block_used.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_block_used m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_some_block_used : Cert.Pre_some_block_used.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "key_scale" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v92_0)) (v1 : (c : Dev Cert.Kernel2Ideal.nD) → Buf (Elt Ideal) ((c.tc : Thread Cert.Kernel2Ideal.nD Cert.Kernel2Ideal.τ).loc Cert.Kernel2Ideal.main_v92_1)) (v2 : (c : Dev Cert.Kernel2Ideal.nD) → Buf (Elt Ideal) ((c.tc : Thread Cert.Kernel2Ideal.nD Cert.Kernel2Ideal.τ).loc Cert.Kernel2Ideal.main_v92_2)) (v3 : (c : Dev Cert.Kernel2Ideal.nD) → Buf (Elt Ideal) ((c.tc : Thread Cert.Kernel2Ideal.nD Cert.Kernel2Ideal.τ).loc Cert.Kernel2Ideal.main_v92_3)) (v4 : (c : Dev Cert.Kernel2Ideal.nD) → Buf (Elt Ideal) ((c.tc : Thread Cert.Kernel2Ideal.nD Cert.Kernel2Ideal.τ).loc Cert.Kernel2Ideal.main_v92_4)) (v5 : (c : Dev Cert.Kernel2Ideal.nD) → Buf (Elt Ideal) ((c.tc : Thread Cert.Kernel2Ideal.nD Cert.Kernel2Ideal.τ).loc Cert.Kernel2Ideal.main_v92_5)) (v6 : (c : Dev Cert.Kernel2Ideal.nD) → Buf (Elt Ideal) ((c.tc : Thread Cert.Kernel2Ideal.nD Cert.Kernel2Ideal.τ).loc Cert.Kernel2Ideal.main_v92_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v92_0) = v0 c
          ∧ r.2.mem ((c.tc : Thread Cert.Kernel2Ideal.nD Cert.Kernel2Ideal.τ).loc Cert.Kernel2Ideal.main_v92_1) = v1 c
          ∧ r.2.mem ((c.tc : Thread Cert.Kernel2Ideal.nD Cert.Kernel2Ideal.τ).loc Cert.Kernel2Ideal.main_v92_2) = v2 c
          ∧ r.2.mem ((c.tc : Thread Cert.Kernel2Ideal.nD Cert.Kernel2Ideal.τ).loc Cert.Kernel2Ideal.main_v92_3) = v3 c
          ∧ r.2.mem ((c.tc : Thread Cert.Kernel2Ideal.nD Cert.Kernel2Ideal.τ).loc Cert.Kernel2Ideal.main_v92_4) = v4 c
          ∧ r.2.mem ((c.tc : Thread Cert.Kernel2Ideal.nD Cert.Kernel2Ideal.τ).loc Cert.Kernel2Ideal.main_v92_5) = v5 c
          ∧ r.2.mem ((c.tc : Thread Cert.Kernel2Ideal.nD Cert.Kernel2Ideal.τ).loc Cert.Kernel2Ideal.main_v92_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v183) = v0 c
          ∧ r.2.mem ((c.tc : Thread Cert.Reference2Ideal.nD Cert.Reference2Ideal.τ).loc Cert.Reference2Ideal.main_v184) = v1 c
          ∧ r.2.mem ((c.tc : Thread Cert.Reference2Ideal.nD Cert.Reference2Ideal.τ).loc Cert.Reference2Ideal.main_v185) = v2 c
          ∧ r.2.mem ((c.tc : Thread Cert.Reference2Ideal.nD Cert.Reference2Ideal.τ).loc Cert.Reference2Ideal.main_v187) = v3 c
          ∧ r.2.mem ((c.tc : Thread Cert.Reference2Ideal.nD Cert.Reference2Ideal.τ).loc Cert.Reference2Ideal.main_v189) = v4 c
          ∧ r.2.mem ((c.tc : Thread Cert.Reference2Ideal.nD Cert.Reference2Ideal.τ).loc Cert.Reference2Ideal.main_v190) = v5 c
          ∧ r.2.mem ((c.tc : Thread Cert.Reference2Ideal.nD Cert.Reference2Ideal.τ).loc Cert.Reference2Ideal.main_v176) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_some_block_used : Cert.Pre_some_block_used.Facts),
    quiescent_Kernel (hKernel := hKernel) (hPre_some_block_used := hPre_some_block_used)
    ∧ quiescent_KernelIdeal (hKernelIdeal := hKernelIdeal) (hPre_some_block_used := hPre_some_block_used)
    ∧ quiescent_ReferenceIdeal (hReferenceIdeal := hReferenceIdeal)
    ∧ quiescent_ReferenceIdeal_pre_some_block_used (hReferenceIdeal := hReferenceIdeal) (hPre_some_block_used := hPre_some_block_used)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_some_block_used := hPre_some_block_used)
    ∧ preserves_Kernel2_Kernel2Ideal
    ∧ algebraic_Kernel2Ideal_Reference2Ideal (hKernel2Ideal := hKernel2Ideal) (hReference2Ideal := hReference2Ideal)
-- ==== Pre_some_block_used.lean ====
abbrev S32 : Shape := ⟨1, ![32]⟩
abbrev S147456x1024 : Shape := ⟨2, ![147456, 1024]⟩
abbrev S2x32x1024x1024 : Shape := ⟨4, ![2, 32, 1024, 1024]⟩
abbrev S2x32x1024 : Shape := ⟨3, ![2, 32, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_cumsum {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_part1 {F : FTy → Type} [FloatOps F] (main_v5 : IVec S32 32) (main_v14 : IVec S32 1) (main_v16 : IVec S32 32) : IVec S_ 1 :=
  let main_v17 : IVec S32 32 := select main_v14 main_v16 main_v5
  let main_v18 : IVec S32 32 := fn_cumsum (F := F) main_v17
  let main_v19 : IVec S1 32 := (extractStridedSlice S1 ![31] · slices_S32_S1_31) main_v18
  let main_v20 : IVec S_ 32 := shapeCast S_ main_v19 shapeCasts_S1_S_
  let main_c_6 : IVec S_ 32 := constantI S_ 32 1#32
  let main_v21 : IVec S_ 1 := cmpi .sge main_v20 main_c_6
  main_v21

def fn {F : FTy → Type} [FloatOps F] (main_arg0 : IVec S32 32) (main_arg1 : FVec F S147456x1024 .f32) (main_arg2 : FVec F S2x32x1024x1024 .f32) (main_arg3 : FVec F S2x32x1024 .f32) (main_arg4 : FVec F S2x32x1024x1024 .f32) (main_arg5 : FVec F S2x32x1024 .f32) (main_arg6 : FVec F S2x32x1024x1024 .f32) (main_arg7 : FVec F S2x32x1024 .f32) : IVec S_ 1 :=
  let main_c : IVec S_ 32 := constantI S_ 32 512#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := broadcastInDim S32 ![] bcast_S_S32 main_c_1
  let main_v5 : IVec S32 32 := Host.divsi main_v3 main_v4
  let main_v6 : IVec S32 32 := signi main_v3
  let main_c_2 : IVec S_ 32 := constantI S_ 32 512#32
  let main_v7 : IVec S_ 32 := signi main_c_2
  let main_v8 : IVec S32 32 := broadcastInDim S32 ![] bcast_S_S32 main_v7
  let main_v9 : IVec S32 1 := cmpi .ne main_v6 main_v8
  let main_c_3 : IVec S_ 32 := constantI S_ 32 512#32
  let main_v10 : IVec S32 32 := broadcastInDim S32 ![] bcast_S_S32 main_c_3
  let main_v11 : IVec S32 32 := Host.remsi main_v3 main_v10
  let main_c_4 : IVec S_ 32 := constantI S_ 32 0#32
  let main_v12 : IVec S32 32 := broadcastInDim S32 ![] bcast_S_S32 main_c_4
  let main_v13 : IVec S32 1 := cmpi .ne main_v11 main_v12
  let main_v14 : IVec S32 1 := andi main_v9 main_v13
  let main_c_5 : IVec S_ 32 := constantI S_ 32 1#32
  let main_v15 : IVec S32 32 := broadcastInDim S32 ![] bcast_S_S32 main_c_5
  let main_v16 : IVec S32 32 := subi main_v5 main_v15
  fn_part1 (F := F) main_v5 main_v14 main_v16
-- ==== Kernel.lean ====
abbrev S32 : Shape := ⟨1, ![32]⟩
abbrev S147456x1024 : Shape := ⟨2, ![147456, 1024]⟩
abbrev S2x32x1024x1024 : Shape := ⟨4, ![2, 32, 1024, 1024]⟩
abbrev S2x32x1024 : Shape := ⟨3, ![2, 32, 1024]⟩
abbrev S_ : Shape := ⟨0, ![]⟩
abbrev S1 : Shape := ⟨1, ![1]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S2x32x1x1024 : Shape := ⟨4, ![2, 32, 1, 1024]⟩
abbrev S512x1024 : Shape := ⟨2, ![512, 1024]⟩
abbrev S1x1x1024x1024 : Shape := ⟨4, ![1, 1, 1024, 1024]⟩
abbrev S1x1x1x1024 : Shape := ⟨4, ![1, 1, 1, 1024]⟩
abbrev S1024x1024 : Shape := ⟨2, ![1024, 1024]⟩
abbrev S1x1024 : Shape := ⟨2, ![1, 1024]⟩

abbrev nBuf : Space → Nat
  | .hbm => 55
  | .vmem => 19
  | .smem => 3
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S2x32x1024x1024, .f32⟩
  | .hbm, ⟨3, _⟩ => ⟨S2x32x1024, .f32⟩
  | .hbm, ⟨4, _⟩ => ⟨S2x32x1024x1024, .f32⟩
  | .hbm, ⟨5, _⟩ => ⟨S2x32x1024, .f32⟩
  | .hbm, ⟨6, _⟩ => ⟨S2x32x1024x1024, .f32⟩
  | .hbm, ⟨7, _⟩ => ⟨S2x32x1024, .f32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S288, .i32⟩
  | .hbm, ⟨41, _⟩ => ⟨S1x32, .i32⟩
  | .hbm, ⟨42, _⟩ => ⟨S288x1, .i32⟩
  | .hbm, ⟨43, _⟩ => ⟨S288x32, .i32⟩
  | .hbm, ⟨44, _⟩ => ⟨S288x32, .i32⟩
  | .hbm, ⟨45, _⟩ => ⟨S288x32, .i1⟩
  | .hbm, ⟨46, _⟩ => ⟨S288x32, .i32⟩
  | .hbm, ⟨47, _⟩ => ⟨S_, .i32⟩
  | .hbm, ⟨48, _⟩ => ⟨S288, .i32⟩
  | .hbm, ⟨49, _⟩ => ⟨S_, .i32⟩
  | .hbm, ⟨50, _⟩ => ⟨S288, .i32⟩
  | .hbm, ⟨51, _⟩ => ⟨S2x32x1x1024, .f32⟩
  | .hbm, ⟨52, _⟩ => ⟨S2x32x1x1024, .f32⟩
  | .hbm, ⟨53, _⟩ => ⟨S2x32x1x1024, .f32⟩
  | .hbm, ⟨54, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_c : Ref sig .tc := ⟨.hbm, 33, rfl⟩
abbrev main_call0_v0 : Ref sig .tc := ⟨.hbm, 34, rfl⟩
abbrev main_v18 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v33 : Ref sig .tc := ⟨.smem, 0, rfl⟩
abbrev main_v24 : Ref sig .tc := ⟨.smem, 1, rfl⟩
abbrev main_v19 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_v33.idx, main_v24.idx, main_v19.idx], fun | 0 => main_v33.names | 1 => main_v24.names | 2 => main_v19.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32 : Shape := ⟨1, ![32]⟩
abbrev S147456x1024 : Shape := ⟨2, ![147456, 1024]⟩
abbrev S2x32x1024x1024 : Shape := ⟨4, ![2, 32, 1024, 1024]⟩
abbrev S2x32x1024 : Shape := ⟨3, ![2, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x512x1024 : Shape := ⟨3, ![288, 512, 1024]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 162
  | .vmem => 0
  | .smem => 0
  | _ => 0

abbrev hbmTy0_0 (i : Nat) : BufTy := match i % 128 with
  | 0 => ⟨S32, .i32⟩
  | 1 => ⟨S147456x1024, .f32⟩
  | 2 => ⟨S2x32x1024x1024, .f32⟩
  | 3 => ⟨S2x32x1024, .f32⟩
  | 4 => ⟨S2x32x1024x1024, .f32⟩
  | 5 => ⟨S2x32x1024, .f32⟩
  | 6 => ⟨S2x32x1024x1024, .f32⟩
  | 7 => ⟨S2x32x1024, .f32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S32, .i32⟩
  | 18 => ⟨S_, .i32⟩
  | 19 => ⟨S_, .i32⟩
  | 20 => ⟨S32, .i32⟩
  | 21 => ⟨S32, .i1⟩
  | 22 => ⟨S_, .i32⟩
  | 23 => ⟨S32, .i32⟩
  | 24 => ⟨S32, .i32⟩
  | 25 => ⟨S_, .i32⟩
  | 26 => ⟨S32, .i32⟩
  | 27 => ⟨S32, .i1⟩
  | 28 => ⟨S32, .i1⟩
  | 29 => ⟨S_, .i32⟩
  | 30 => ⟨S32, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S1x32, .i32⟩
  | 38 => ⟨S288x1, .i32⟩
  | 39 => ⟨S288x32, .i32⟩
  | 40 => ⟨S288x32, .i32⟩
  | 41 => ⟨S288x32, .i1⟩
  | 42 => ⟨S288x32, .i32⟩
  | 43 => ⟨S_, .i32⟩
  | 44 => ⟨S288, .i32⟩
  | 45 => ⟨S_, .i32⟩
  | 46 => ⟨S288, .i32⟩
  | 47 => ⟨S288, .i32⟩
  | 48 => ⟨S288x512x1024, .f32⟩
  | 49 => ⟨S1x32x1024x1024, .f32⟩
  | 50 => ⟨S32x1024x1024, .f32⟩
  | 51 => ⟨S_, .i32⟩
  | 52 => ⟨S288, .i32⟩
  | 53 => ⟨S288, .i1⟩
  | 54 => ⟨S_, .i32⟩
  | 55 => ⟨S288, .i32⟩
  | 56 => ⟨S288, .i32⟩
  | 57 => ⟨S288, .i32⟩
  | 58 => ⟨S288x1, .i32⟩
  | 59 => ⟨S288x1024x1024, .f32⟩
  | 60 => ⟨S288x512x1024, .f32⟩
  | 61 => ⟨S1x32x1024, .f32⟩
  | 62 => ⟨S32x1024, .f32⟩
  | 63 => ⟨S_, .i32⟩
  | 64 => ⟨S288, .i32⟩
  | 65 => ⟨S288, .i1⟩
  | 66 => ⟨S_, .i32⟩
  | 67 => ⟨S288, .i32⟩
  | 68 => ⟨S288, .i32⟩
  | 69 => ⟨S288, .i32⟩
  | 70 => ⟨S288x1, .i32⟩
  | 71 => ⟨S288x1024, .f32⟩
  | 72 => ⟨S288x1x1024, .f32⟩
  | 73 => ⟨S288x512x1024, .f32⟩
  | 74 => ⟨S288x512x1024, .f32⟩
  | 75 => ⟨S_, .f32⟩
  | 76 => ⟨S288x512x1024, .f32⟩
  | 77 => ⟨S288x512x1024, .f32⟩
  | 78 => ⟨S1x32x1024x1024, .f32⟩
  | 79 => ⟨S32x1024x1024, .f32⟩
  | 80 => ⟨S_, .i32⟩
  | 81 => ⟨S288, .i32⟩
  | 82 => ⟨S288, .i1⟩
  | 83 => ⟨S_, .i32⟩
  | 84 => ⟨S288, .i32⟩
  | 85 => ⟨S288, .i32⟩
  | 86 => ⟨S288, .i32⟩
  | 87 => ⟨S288x1, .i32⟩
  | 88 => ⟨S288x1024x1024, .f32⟩
  | 89 => ⟨S288x512x1024, .f32⟩
  | 90 => ⟨S1x32x1024, .f32⟩
  | 91 => ⟨S32x1024, .f32⟩
  | 92 => ⟨S_, .i32⟩
  | 93 => ⟨S288, .i32⟩
  | 94 => ⟨S288, .i1⟩
  | 95 => ⟨S_, .i32⟩
  | 96 => ⟨S288, .i32⟩
  | 97 => ⟨S288, .i32⟩
  | 98 => ⟨S288, .i32⟩
  | 99 => ⟨S288x1, .i32⟩
  | 100 => ⟨S288x1024, .f32⟩
  | 101 => ⟨S288x1x1024, .f32⟩
  | 102 => ⟨S288x512x1024, .f32⟩
  | 103 => ⟨S288x512x1024, .f32⟩
  | 104 => ⟨S_, .f32⟩
  | 105 => ⟨S288x512x1024, .f32⟩
  | 106 => ⟨S288x512x1024, .f32⟩
  | 107 => ⟨S_, .f32⟩
  | 108 => ⟨S288x512x1024, .f32⟩
  | 109 => ⟨S288x512x1024, .f32⟩
  | 110 => ⟨S_, .f32⟩
  | 111 => ⟨S288x512x1024, .f32⟩
  | 112 => ⟨S288x512x1024, .f32⟩
  | 113 => ⟨S_, .f32⟩
  | 114 => ⟨S288x512x1024, .f32⟩
  | 115 => ⟨S288x512x1024, .f32⟩
  | 116 => ⟨S288x512x1024, .f32⟩
  | 117 => ⟨S288x512x1024, .f32⟩
  | 118 => ⟨S_, .f32⟩
  | 119 => ⟨S288x512x1024, .f32⟩
  | 120 => ⟨S288x512x1024, .f32⟩
  | 121 => ⟨S_, .f32⟩
  | 122 => ⟨S288x512x1024, .f32⟩
  | 123 => ⟨S288x512x1024, .f32⟩
  | 124 => ⟨S288x512x1024, .f32⟩
  | 125 => ⟨S288x512x1024, .f32⟩
  | 126 => ⟨S1x32x1024x1024, .f32⟩
  | 127 => ⟨S32x1024x1024, .f32⟩
  | _ => ⟨S32, .i32⟩

abbrev hbmTy0_1 (i : Nat) : BufTy := match i % 128 with
  | 0 => ⟨S_, .i32⟩
  | 1 => ⟨S288, .i32⟩
  | 2 => ⟨S288, .i1⟩
  | 3 => ⟨S_, .i32⟩
  | 4 => ⟨S288, .i32⟩
  | 5 => ⟨S288, .i32⟩
  | 6 => ⟨S288, .i32⟩
  | 7 => ⟨S288x1, .i32⟩
  | 8 => ⟨S288x1024x1024, .f32⟩
  | 9 => ⟨S288x512x1024, .f32⟩
  | 10 => ⟨S1x32x1024, .f32⟩
  | 11 => ⟨S32x1024, .f32⟩
  | 12 => ⟨S_, .i32⟩
  | 13 => ⟨S288, .i32⟩
  | 14 => ⟨S288, .i1⟩
  | 15 => ⟨S_, .i32⟩
  | 16 => ⟨S288, .i32⟩
  | 17 => ⟨S288, .i32⟩
  | 18 => ⟨S288, .i32⟩
  | 19 => ⟨S288x1, .i32⟩
  | 20 => ⟨S288x1024, .f32⟩
  | 21 => ⟨S288x1x1024, .f32⟩
  | 22 => ⟨S288x512x1024, .f32⟩
  | 23 => ⟨S288x512x1024, .f32⟩
  | 24 => ⟨S1, .i32⟩
  | 25 => ⟨S_, .i32⟩
  | 26 => ⟨S288, .i32⟩
  | 27 => ⟨S288, .i1⟩
  | 28 => ⟨S288x1x1, .i1⟩
  | 29 => ⟨S288x512x1024, .i1⟩
  | 30 => ⟨S_, .f32⟩
  | 31 => ⟨S288x512x1024, .f32⟩
  | 32 => ⟨S288x512x1024, .f32⟩
  | 33 => ⟨S147456x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_c : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_cst_21 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_22 : Ref sig .tc := ⟨.hbm, 128, rfl⟩
abbrev main_v94 : Ref sig .tc := ⟨.hbm, 129, rfl⟩
abbrev main_v95 : Ref sig .tc := ⟨.hbm, 130, rfl⟩
abbrev main_c_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_24 : Ref sig .tc := ⟨.hbm, 140, rfl⟩
abbrev main_v104 : Ref sig .tc := ⟨.hbm, 141, rfl⟩
abbrev main_v105 : Ref sig .tc := ⟨.hbm, 142, rfl⟩
abbrev main_c_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_26 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192 : Shape := ⟨2, ![4, 8192]⟩
abbrev S4x1x1024 : Shape := ⟨3, ![4, 1, 1024]⟩
abbrev S1024 : Shape := ⟨1, ![1024]⟩
abbrev S1024x3592 : Shape := ⟨2, ![1024, 3592]⟩
abbrev S4x1024 : Shape := ⟨2, ![4, 1024]⟩
abbrev S4 : Shape := ⟨1, ![4]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S4x8192x1 : Shape := ⟨3, ![4, 8192, 1]⟩
abbrev S1x1x128 : Shape := ⟨3, ![1, 1, 128]⟩
abbrev S4x8192x128 : Shape := ⟨3, ![4, 8192, 128]⟩
abbrev S1 : Shape := ⟨1, ![1]⟩
abbrev S2 : Shape := ⟨1, ![2]⟩
abbrev S1x1024 : Shape := ⟨2, ![1, 1024]⟩
abbrev S1024x120 : Shape := ⟨2, ![1024, 120]⟩
abbrev S1024x2048 : Shape := ⟨2, ![1024, 2048]⟩
abbrev S1024x1536 : Shape := ⟨2, ![1024, 1536]⟩
abbrev S1024x8 : Shape := ⟨2, ![1024, 8]⟩
abbrev S1024x3712 : Shape := ⟨2, ![1024, 3712]⟩
abbrev S4x8192x512 : Shape := ⟨3, ![4, 8192, 512]⟩
abbrev S4x8x32x80x256 : Shape := ⟨5, ![4, 8, 32, 80, 256]⟩
abbrev S4x32x1x512 : Shape := ⟨4, ![4, 32, 1, 512]⟩
abbrev S1x256x1024 : Shape := ⟨3, ![1, 256, 1024]⟩
abbrev S1x1x1024 : Shape := ⟨3, ![1, 1, 1024]⟩
abbrev S1x256x128 : Shape := ⟨3, ![1, 256, 128]⟩
abbrev S1x256x512 : Shape := ⟨3, ![1, 256, 512]⟩
abbrev S1x8x1x80x256 : Shape := ⟨5, ![1, 8, 1, 80, 256]⟩
abbrev S1x1x1x512 : Shape := ⟨4, ![1, 1, 1, 512]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S248x1024 : Shape := ⟨2, ![248, 1024]⟩
abbrev S1024x512 : Shape := ⟨2, ![1024, 512]⟩
abbrev S256x512 : Shape := ⟨2, ![256, 512]⟩
abbrev S256x1536 : Shape := ⟨2, ![256, 1536]⟩
abbrev S256x128 : Shape := ⟨2, ![256, 128]⟩
abbrev S1x1x1x128 : Shape := ⟨4, ![1, 1, 1, 128]⟩
abbrev S128x256 : Shape := ⟨2, ![128, 256]⟩
abbrev S16x256 : Shape := ⟨2, ![16, 256]⟩
abbrev S64x256 : Shape := ⟨2, ![64, 256]⟩
abbrev S80x256 : Shape := ⟨2, ![80, 256]⟩
abbrev S1x1x1x80x256 : Shape := ⟨5, ![1, 1, 1, 80, 256]⟩
abbrev S1024x128 : Shape := ⟨2, ![1024, 128]⟩

abbrev nBuf : Space → Nat
  | .hbm => 142
  | .vmem => 30
  | .smem => 0
  | _ => 0

abbrev hbmTy0_0 (i : Nat) : BufTy := match i % 128 with
  | 0 => ⟨S4x8192x1024, .f32⟩
  | 1 => ⟨S4x8192, .i32⟩
  | 2 => ⟨S4x1x1024, .f32⟩
  | 3 => ⟨S4x1x1024, .f32⟩
  | 4 => ⟨S1024, .f32⟩
  | 5 => ⟨S1024x3592, .f32⟩
  | 6 => ⟨S4x1024, .f32⟩
  | 7 => ⟨S1024, .f32⟩
  | 8 => ⟨S4, .f32⟩
  | 9 => ⟨S4, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S128, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i1⟩
  | 64 => ⟨S_, .i32⟩
  | 65 => ⟨S_, .i1⟩
  | 66 => ⟨S128, .i1⟩
  | 67 => ⟨S128, .i1⟩
  | 68 => ⟨S128, .i1⟩
  | 69 => ⟨S128, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S128, .f32⟩
  | 81 => ⟨S_, .f32⟩
  | 82 => ⟨S128, .f32⟩
  | 83 => ⟨S128, .f32⟩
  | 84 => ⟨S1x128, .f32⟩
  | 85 => ⟨S_, .i32⟩
  | 86 => ⟨S128, .i32⟩
  | 87 => ⟨S128, .i1⟩
  | 88 => ⟨S_, .i32⟩
  | 89 => ⟨S128, .i32⟩
  | 90 => ⟨S128, .i1⟩
  | 91 => ⟨S_, .f32⟩
  | 92 => ⟨S128, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S1x128, .f32⟩
  | 101 => ⟨S4x8192x1, .i32⟩
  | 102 => ⟨S4x8192x1, .f32⟩
  | 103 => ⟨S1x1x128, .f32⟩
  | 104 => ⟨S4x8192x128, .f32⟩
  | 105 => ⟨S4x8192x128, .f32⟩
  | 106 => ⟨S4x8192x128, .f32⟩
  | 107 => ⟨S4x8192x128, .f32⟩
  | 108 => ⟨S4x8192x128, .f32⟩
  | 109 => ⟨S1x1x128, .f32⟩
  | 110 => ⟨S4x8192x128, .f32⟩
  | 111 => ⟨S4x8192x128, .f32⟩
  | 112 => ⟨S_, .f32⟩
  | 113 => ⟨S1x128, .f32⟩
  | 114 => ⟨S_, .i32⟩
  | 115 => ⟨S1, .i32⟩
  | 116 => ⟨S_, .i32⟩
  | 117 => ⟨S1, .i32⟩
  | 118 => ⟨S2, .i32⟩
  | 119 => ⟨S1x128, .f32⟩
  | 120 => ⟨S_, .i32⟩
  | 121 => ⟨S1, .i32⟩
  | 122 => ⟨S_, .i32⟩
  | 123 => ⟨S1, .i32⟩
  | 124 => ⟨S2, .i32⟩
  | 125 => ⟨S1x128, .f32⟩
  | 126 => ⟨S1x1024, .f32⟩
  | 127 => ⟨S_, .f32⟩
  | _ => ⟨S4x8192x1024, .f32⟩

abbrev hbmTy0_1 (i : Nat) : BufTy := match i % 128 with
  | 0 => ⟨S1024x120, .f32⟩
  | 1 => ⟨S1024x2048, .f32⟩
  | 2 => ⟨S1024x1536, .f32⟩
  | 3 => ⟨S1024x8, .f32⟩
  | 4 => ⟨S1024x3712, .f32⟩
  | 5 => ⟨S1024x3712, .bf16⟩
  | 6 => ⟨S1x1024, .f32⟩
  | 7 => ⟨S4x8192x1024, .bf16⟩
  | 8 => ⟨S4x8192x512, .bf16⟩
  | 9 => ⟨S4x8192x512, .bf16⟩
  | 10 => ⟨S4x8192x1024, .bf16⟩
  | 11 => ⟨S4x8x32x80x256, .bf16⟩
  | 12 => ⟨S4x8192x128, .f32⟩
  | 13 => ⟨S4x32x1x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3712, .bf16⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x8x1x80x256, .bf16⟩
  | .local _ .vmem, ⟨24, _⟩ => ⟨S1x8x1x80x256, .bf16⟩
  | .local _ .vmem, ⟨25, _⟩ => ⟨S1x256x128, .f32⟩
  | .local _ .vmem, ⟨26, _⟩ => ⟨S1x256x128, .f32⟩
  | .local _ .vmem, ⟨27, _⟩ => ⟨S1x1x1x512, .f32⟩
  | .local _ .vmem, ⟨28, _⟩ => ⟨S1x1x1x512, .f32⟩
  | .local _ .vmem, ⟨29, _⟩ => ⟨S8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_c_3 : Ref sig .tc := ⟨.hbm, 26, rfl⟩
abbrev main_v11 : Ref sig .tc := ⟨.hbm, 27, rfl⟩
abbrev main_c_4 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_6 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_9 : Ref sig .tc := ⟨.hbm, 47, rfl⟩
abbrev main_v26 : Ref sig .tc := ⟨.hbm, 48, rfl⟩
abbrev main_v27 : Ref sig .tc := ⟨.hbm, 49, rfl⟩
abbrev main_c_10 : Ref sig .tc := ⟨.hbm, 50, rfl⟩
abbrev main_c_11 : Ref sig .tc := ⟨.hbm, 51, rfl⟩
abbrev main_v28 : Ref sig .tc := ⟨.hbm, 52, rfl⟩
abbrev main_c_12 : Ref sig .tc := ⟨.hbm, 53, rfl⟩
abbrev main_c_13 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_14 : Ref sig .tc := ⟨.hbm, 58, rfl⟩
abbrev main_v32 : Ref sig .tc := ⟨.hbm, 59, rfl⟩
abbrev main_v33 : Ref sig .tc := ⟨.hbm, 60, rfl⟩
abbrev main_c_15 : Ref sig .tc := ⟨.hbm, 61, rfl⟩
abbrev main_v34 : Ref sig .tc := ⟨.hbm, 62, rfl⟩
abbrev main_v35 : Ref sig .tc := ⟨.hbm, 63, rfl⟩
abbrev main_c_16 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_17 : Ref sig .tc := ⟨.hbm, 72, rfl⟩
abbrev main_v43 : Ref sig .tc := ⟨.hbm, 73, rfl⟩
abbrev main_v44 : Ref sig .tc := ⟨.hbm, 74, rfl⟩
abbrev main_c_18 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_19 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_20 : Ref sig .tc := ⟨.hbm, 85, rfl⟩
abbrev main_v53 : Ref sig .tc := ⟨.hbm, 86, rfl⟩
abbrev main_v54 : Ref sig .tc := ⟨.hbm, 87, rfl⟩
abbrev main_c_21 : Ref sig .tc := ⟨.hbm, 88, rfl⟩
abbrev main_v55 : Ref sig .tc := ⟨.hbm, 89, rfl⟩
abbrev main_v56 : Ref sig .tc := ⟨.hbm, 90, rfl⟩
abbrev main_cst_22 : Ref sig .tc := ⟨.hbm, 91, rfl⟩
abbrev main_v57 : Ref sig .tc := ⟨.hbm, 92, rfl⟩
abbrev main_cst_23 : Ref sig .tc := ⟨.hbm, 93, rfl⟩
abbrev main_v58 : Ref sig .tc := ⟨.hbm, 94, rfl⟩
abbrev main_v59 : Ref sig .tc := ⟨.hbm, 95, rfl⟩
abbrev main_cst_24 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_25 : Ref sig .tc := ⟨.hbm, 112, rfl⟩
abbrev main_v75 : Ref sig .tc := ⟨.hbm, 113, rfl⟩
abbrev main_c_26 : Ref sig .tc := ⟨.hbm, 114, rfl⟩
abbrev main_v76 : Ref sig .tc := ⟨.hbm, 115, rfl⟩
abbrev main_c_27 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_28 : Ref sig .tc := ⟨.hbm, 120, rfl⟩
abbrev main_v80 : Ref sig .tc := ⟨.hbm, 121, rfl⟩
abbrev main_c_29 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_30 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92_0 : Ref sig .tc := ⟨.hbm, 135, rfl⟩
abbrev main_v92_1 : Ref sig .tc := ⟨.hbm, 136, rfl⟩
abbrev main_v92_2 : Ref sig .tc := ⟨.hbm, 137, rfl⟩
abbrev main_v92_3 : Ref sig .tc := ⟨.hbm, 138, rfl⟩
abbrev main_v92_4 : Ref sig .tc := ⟨.hbm, 139, rfl⟩
abbrev main_v92_5 : Ref sig .tc := ⟨.hbm, 140, rfl⟩
abbrev main_v92_6 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1x80x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel2Ideal.lean ====
variable {F : FTy → Type} [FloatOps F] [Named F]
def κ : String → Option EReal := fun
  | "key_scale" => some (((Real.sqrt 128)⁻¹ : ℝ) : EReal)
  | _ => none
-- ==== Reference2Ideal.lean ====
abbrev S4x8192x1024 : Shape := ⟨3, ![4, 8192, 1024]⟩
abbrev S4x8192 : Shape := ⟨2, ![4, 8192]⟩
abbrev S4x1x1024 : Shape := ⟨3, ![4, 1, 1024]⟩
abbrev S1024 : Shape := ⟨1, ![1024]⟩
abbrev S1024x3592 : Shape := ⟨2, ![1024, 3592]⟩
abbrev S4x1024 : Shape := ⟨2, ![4, 1024]⟩
abbrev S4 : Shape := ⟨1, ![4]⟩
abbrev S_ : Shape := ⟨0, ![]⟩
abbrev S4x8192x1 : Shape := ⟨3, ![4, 8192, 1]⟩
abbrev S1x1x1024 : Shape := ⟨3, ![1, 1, 1024]⟩
abbrev S4x8192x3592 : Shape := ⟨3, ![4, 8192, 3592]⟩
abbrev S4x8192x512 : Shape := ⟨3, ![4, 8192, 512]⟩
abbrev S4x8192x4 : Shape := ⟨3, ![4, 8192, 4]⟩
abbrev S4x3x1024 : Shape := ⟨3, ![4, 3, 1024]⟩
abbrev S4x8195x1024 : Shape := ⟨3, ![4, 8195, 1024]⟩
abbrev S1x1024 : Shape := ⟨2, ![1, 1024]⟩
abbrev S1x1x4 : Shape := ⟨3, ![1, 1, 4]⟩
abbrev S1x1x1 : Shape := ⟨3, ![1, 1, 1]⟩
abbrev S4x8192x120 : Shape := ⟨3, ![4, 8192, 120]⟩
abbrev S8 : Shape := ⟨1, ![8]⟩
abbrev S4x8192x1x1 : Shape := ⟨4, ![4, 8192, 1, 1]⟩
abbrev S1x1x1x8 : Shape := ⟨4, ![1, 1, 1, 8]⟩
abbrev S4x8192x1x8 : Shape := ⟨4, ![4, 8192, 1, 8]⟩
abbrev S4x8192x8x64 : Shape := ⟨4, ![4, 8192, 8, 64]⟩
abbrev S4x8192x8x8 : Shape := ⟨4, ![4, 8192, 8, 8]⟩
abbrev S4x8192x8x48 : Shape := ⟨4, ![4, 8192, 8, 48]⟩
abbrev S4x32x256x512 : Shape := ⟨4, ![4, 32, 256, 512]⟩
abbrev S4x32x512 : Shape := ⟨3, ![4, 32, 512]⟩
abbrev S4x32x1x512 : Shape := ⟨4, ![4, 32, 1, 512]⟩
abbrev S4x32x256x8x64 : Shape := ⟨5, ![4, 32, 256, 8, 64]⟩
abbrev S4x8x32x64x256 : Shape := ⟨5, ![4, 8, 32, 64, 256]⟩
abbrev S4x8x32x1x256 : Shape := ⟨5, ![4, 8, 32, 1, 256]⟩
abbrev S4x8x32x15x256 : Shape := ⟨5, ![4, 8, 32, 15, 256]⟩
abbrev S4x8x32x80x256 : Shape := ⟨5, ![4, 8, 32, 80, 256]⟩
abbrev S4x8192x128 : Shape := ⟨3, ![4, 8192, 128]⟩

abbrev nBuf : Space → Nat
  | .hbm => 224
  | .vmem => 0
  | .smem => 0
  | _ => 0

abbrev hbmTy0_0 (i : Nat) : BufTy := match i % 128 with
  | 0 => ⟨S4x8192x1024, .f32⟩
  | 1 => ⟨S4x8192, .i32⟩
  | 2 => ⟨S4x1x1024, .f32⟩
  | 3 => ⟨S4x1x1024, .f32⟩
  | 4 => ⟨S1024, .f32⟩
  | 5 => ⟨S1024x3592, .f32⟩
  | 6 => ⟨S4x1024, .f32⟩
  | 7 => ⟨S1024, .f32⟩
  | 8 => ⟨S4, .f32⟩
  | 9 => ⟨S4, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x3592, .f32⟩
  | 34 => ⟨S4x8192x512, .f32⟩
  | 35 => ⟨S4x8192x512, .f32⟩
  | 36 => ⟨S4x8192x512, .f32⟩
  | 37 => ⟨S4x8192x512, .f32⟩
  | 38 => ⟨S4x8192x4, .f32⟩
  | 39 => ⟨S4x8192x4, .f32⟩
  | 40 => ⟨S4x8192x512, .f32⟩
  | 41 => ⟨S4x8192x512, .f32⟩
  | 42 => ⟨S4x8192x512, .f32⟩
  | 43 => ⟨S4x8192x1024, .f32⟩
  | 44 => ⟨S_, .f32⟩
  | 45 => ⟨S4x3x1024, .f32⟩
  | 46 => ⟨S4x8195x1024, .f32⟩
  | 47 => ⟨S1x1024, .f32⟩
  | 48 => ⟨S1024, .f32⟩
  | 49 => ⟨S4x8192x1024, .f32⟩
  | 50 => ⟨S1x1x1024, .f32⟩
  | 51 => ⟨S4x8192x1024, .f32⟩
  | 52 => ⟨S4x8192x1024, .f32⟩
  | 53 => ⟨S1x1024, .f32⟩
  | 54 => ⟨S1024, .f32⟩
  | 55 => ⟨S4x8192x1024, .f32⟩
  | 56 => ⟨S1x1x1024, .f32⟩
  | 57 => ⟨S4x8192x1024, .f32⟩
  | 58 => ⟨S4x8192x1024, .f32⟩
  | 59 => ⟨S4x8192x1024, .f32⟩
  | 60 => ⟨S1x1024, .f32⟩
  | 61 => ⟨S1024, .f32⟩
  | 62 => ⟨S4x8192x1024, .f32⟩
  | 63 => ⟨S1x1x1024, .f32⟩
  | 64 => ⟨S4x8192x1024, .f32⟩
  | 65 => ⟨S4x8192x1024, .f32⟩
  | 66 => ⟨S4x8192x1024, .f32⟩
  | 67 => ⟨S1x1024, .f32⟩
  | 68 => ⟨S1024, .f32⟩
  | 69 => ⟨S4x8192x1024, .f32⟩
  | 70 => ⟨S1x1x1024, .f32⟩
  | 71 => ⟨S4x8192x1024, .f32⟩
  | 72 => ⟨S4x8192x1024, .f32⟩
  | 73 => ⟨S4x8192x1024, .f32⟩
  | 74 => ⟨S1x1x1024, .f32⟩
  | 75 => ⟨S4x8192x1024, .f32⟩
  | 76 => ⟨S4x8192x1024, .f32⟩
  | 77 => ⟨S4x8192x1024, .f32⟩
  | 78 => ⟨S4x8192x1024, .f32⟩
  | 79 => ⟨S_, .f32⟩
  | 80 => ⟨S4x8192x1024, .f32⟩
  | 81 => ⟨S4x8192x1024, .f32⟩
  | 82 => ⟨S_, .f32⟩
  | 83 => ⟨S4x8192x1024, .f32⟩
  | 84 => ⟨S4x8192x1024, .f32⟩
  | 85 => ⟨S4x8192x1024, .f32⟩
  | 86 => ⟨S4x8192x512, .f32⟩
  | 87 => ⟨S4x8192x512, .f32⟩
  | 88 => ⟨S_, .f32⟩
  | 89 => ⟨S_, .f32⟩
  | 90 => ⟨S4x8192x512, .f32⟩
  | 91 => ⟨S4x8192x512, .f32⟩
  | 92 => ⟨S1x1x4, .f32⟩
  | 93 => ⟨S4x8192x4, .f32⟩
  | 94 => ⟨S4x8192x4, .f32⟩
  | 95 => ⟨S_, .f32⟩
  | 96 => ⟨S4x8192x4, .f32⟩
  | 97 => ⟨S4x8192x4, .f32⟩
  | 98 => ⟨S4x8192x4, .f32⟩
  | 99 => ⟨S_, .f32⟩
  | 100 => ⟨S4x8192x4, .f32⟩
  | 101 => ⟨S4x8192x4, .f32⟩
  | 102 => ⟨S1x1x4, .f32⟩
  | 103 => ⟨S4x8192x4, .f32⟩
  | 104 => ⟨S4x8192x4, .f32⟩
  | 105 => ⟨S_, .f32⟩
  | 106 => ⟨S4x8192x4, .f32⟩
  | 107 => ⟨S4x8192x4, .f32⟩
  | 108 => ⟨S4x8192x4, .f32⟩
  | 109 => ⟨S_, .f32⟩
  | 110 => ⟨S4x8192x4, .f32⟩
  | 111 => ⟨S4x8192x4, .f32⟩
  | 112 => ⟨S4x8192x4, .f32⟩
  | 113 => ⟨S_, .f32⟩
  | 114 => ⟨S4x8192x4, .f32⟩
  | 115 => ⟨S4x8192x4, .f32⟩
  | 116 => ⟨S4x8192x4, .f32⟩
  | 117 => ⟨S4x8192x4, .f32⟩
  | 118 => ⟨S4x8192x4, .i1⟩
  | 119 => ⟨S4x8192x4, .f32⟩
  | 120 => ⟨S4x8192x4, .f32⟩
  | 121 => ⟨S4x8192x4, .f32⟩
  | 122 => ⟨S4x8192x4, .f32⟩
  | 123 => ⟨S4x8192x4, .f32⟩
  | 124 => ⟨S4x8192x4, .f32⟩
  | 125 => ⟨S4x8192x4, .f32⟩
  | 126 => ⟨S4x8192x4, .f32⟩
  | 127 => ⟨S4x8192x4, .f32⟩
  | _ => ⟨S4x8192x1024, .f32⟩

abbrev hbmTy0_1 (i : Nat) : BufTy := match i % 128 with
  | 0 => ⟨S_, .f32⟩
  | 1 => ⟨S1x1x1, .f32⟩
  | 2 => ⟨S1x1x1, .f32⟩
  | 3 => ⟨S_, .f32⟩
  | 4 => ⟨S1x1x1, .f32⟩
  | 5 => ⟨S1x1x1, .f32⟩
  | 6 => ⟨S1x1x1, .f32⟩
  | 7 => ⟨S1x1x1, .f32⟩
  | 8 => ⟨S1x1x1, .i1⟩
  | 9 => ⟨S1x1x1, .f32⟩
  | 10 => ⟨S1x1x1, .f32⟩
  | 11 => ⟨S1x1x1, .f32⟩
  | 12 => ⟨S1x1x1, .f32⟩
  | 13 => ⟨S1x1x1, .f32⟩
  | 14 => ⟨S1x1x1, .f32⟩
  | 15 => ⟨S1x1x1, .f32⟩
  | 16 => ⟨S1x1x1, .f32⟩
  | 17 => ⟨S1x1x1, .f32⟩
  | 18 => ⟨S4x8192x120, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S4x8192, .f32⟩
  | 34 => ⟨S4x8192x1x1, .f32⟩
  | 35 => ⟨S1x1x1x8, .f32⟩
  | 36 => ⟨S4x8192x1x8, .f32⟩
  | 37 => ⟨S4x8192x1x8, .f32⟩
  | 38 => ⟨S4x8192x1x8, .f32⟩
  | 39 => ⟨S4x8192x1x8, .f32⟩
  | 40 => ⟨S4x8192x1x8, .f32⟩
  | 41 => ⟨S4x8192x8x64, .f32⟩
  | 42 => ⟨S4x8192x8x8, .f32⟩
  | 43 => ⟨S4x8192x8x8, .f32⟩
  | 44 => ⟨S4x8192x8x8, .f32⟩
  | 45 => ⟨S4x8192x8x8, .f32⟩
  | 46 => ⟨S4x8192x8x8, .f32⟩
  | 47 => ⟨S4x8192x8x8, .f32⟩
  | 48 => ⟨S4x8192x8x8, .f32⟩
  | 49 => ⟨S4x8192x8x8, .f32⟩
  | 50 => ⟨S4x8192x8x8, .f32⟩
  | 51 => ⟨S4x8192x8x8, .f32⟩
  | 52 => ⟨S4x8192x8x8, .f32⟩
  | 53 => ⟨S4x8192x8x8, .f32⟩
  | 54 => ⟨S4x8192x8x48, .f32⟩
  | 55 => ⟨S4x8192x8x64, .f32⟩
  | 56 => ⟨S4x8192x512, .f32⟩
  | 57 => ⟨S4x8192x8x64, .f32⟩
  | 58 => ⟨S4x8192x8x8, .f32⟩
  | 59 => ⟨S4x8192x8x8, .f32⟩
  | 60 => ⟨S4x8192x8x8, .f32⟩
  | 61 => ⟨S4x8192x8x8, .f32⟩
  | 62 => ⟨S4x8192x8x8, .f32⟩
  | 63 => ⟨S4x8192x8x8, .f32⟩
  | 64 => ⟨S4x8192x8x8, .f32⟩
  | 65 => ⟨S4x8192x8x8, .f32⟩
  | 66 => ⟨S4x8192x8x8, .f32⟩
  | 67 => ⟨S4x8192x8x8, .f32⟩
  | 68 => ⟨S4x8192x8x8, .f32⟩
  | 69 => ⟨S4x8192x8x8, .f32⟩
  | 70 => ⟨S4x8192x8x48, .f32⟩
  | 71 => ⟨S4x8192x8x64, .f32⟩
  | 72 => ⟨S4x8192x512, .f32⟩
  | 73 => ⟨S4x32x256x512, .f32⟩
  | 74 => ⟨S_, .f32⟩
  | 75 => ⟨S4x32x512, .f32⟩
  | 76 => ⟨S4x32x1x512, .f32⟩
  | 77 => ⟨S_, .f32⟩
  | 78 => ⟨S4x32x1x512, .f32⟩
  | 79 => ⟨S4x32x1x512, .f32⟩
  | 80 => ⟨S4x8192x8x64, .f32⟩
  | 81 => ⟨S4x32x256x8x64, .f32⟩
  | 82 => ⟨S4x8x32x64x256, .f32⟩
  | 83 => ⟨S_, .f32⟩
  | 84 => ⟨S4x8x32x1x256, .f32⟩
  | 85 => ⟨S_, .f32⟩
  | 86 => ⟨S4x8x32x15x256, .f32⟩
  | 87 => ⟨S4x8192x1024, .f32⟩
  | 88 => ⟨S4x8192x1024, .bf16⟩
  | 89 => ⟨S4x8192x512, .bf16⟩
  | 90 => ⟨S4x8192x512, .bf16⟩
  | 91 => ⟨S4x8192x1024, .f32⟩
  | 92 => ⟨S4x8192x1024, .bf16⟩
  | 93 => ⟨S4x8x32x80x256, .f32⟩
  | 94 => ⟨S4x8x32x80x256, .bf16⟩
  | 95 => ⟨S4x8192x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_9 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_10 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_12 : Ref sig .tc := ⟨.hbm, 128, rfl⟩
abbrev main_v105 : Ref sig .tc := ⟨.hbm, 129, rfl⟩
abbrev main_v106 : Ref sig .tc := ⟨.hbm, 130, rfl⟩
abbrev main_cst_13 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_14 : Ref sig .tc := ⟨.hbm, 148, rfl⟩
abbrev main_v123 : Ref sig .tc := ⟨.hbm, 149, rfl⟩
abbrev main_v124 : Ref sig .tc := ⟨.hbm, 150, rfl⟩
abbrev main_cst_15 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_16 : Ref sig .tc := ⟨.hbm, 155, rfl⟩
abbrev main_v128 : Ref sig .tc := ⟨.hbm, 156, rfl⟩
abbrev main_v129 : Ref sig .tc := ⟨.hbm, 157, rfl⟩
abbrev main_cst_17 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_cst_18 : Ref sig .tc := ⟨.hbm, 202, rfl⟩
abbrev main_v173 : Ref sig .tc := ⟨.hbm, 203, rfl⟩
abbrev main_v174 : Ref sig .tc := ⟨.hbm, 204, rfl⟩
abbrev main_cst_19 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_cst_20 : Ref sig .tc := ⟨.hbm, 211, rfl⟩
abbrev main_v180 : Ref sig .tc := ⟨.hbm, 212, rfl⟩
abbrev main_cst_21 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩

abbrev nD : Nat := 1
abbrev τ : Topo := Topo.v7x

variable {F : FTy → Type} [FloatOps F]
-- ==== Proof.InSpec.lean ====
/- The in-projection's results over the reals, entry by entry. -/
module

public import Idealize.ShloMosaic.Lib.Pointwise

@[expose] public section

noncomputable section

namespace Cert.InProj

open Idealize.ShloMosaic

/-- The value a constant's word denotes. -/
abbrev cst (w : BitVec 32) : EReal := Ideal.ofBits .f32 w

/-- The keys' scale. -/
def keyScale : EReal := ((Real.sqrt 128)⁻¹ : ℝ)

/-- One entry of a normed and modulated row. -/
def hAt (x g sc sh : Fin 1024 → EReal) (k : Fin 1024) : EReal :=
  x k * Ideal.rsqrt (Ideal.div (∑ j, x j * x j) (cst 0x44800000#32) + cst 0x3727C5AC#32) * g k * (1 + sc k) + sh k

/-- One entry of the projection. -/
def zAt (x g sc sh w : Fin 1024 → EReal) : EReal := ∑ k, hAt x g sc sh k * w k

/-- The gated activation of a convolution's entry. -/
def siluAt (c : EReal) : EReal := c * Ideal.div 1 (1 + Ideal.exp (-c))

/-- A gate's entry between -15 and 15. -/
def capAt (t : EReal) : EReal := cst 0x41700000#32 * Ideal.tanh (Ideal.div t (cst 0x41700000#32))

/-- The logarithm of the sigmoid. -/
def logSigAt (t : EReal) : EReal := min t 0 - Ideal.log (1 + Ideal.exp (-(max t (-t))))

/-! ## The call's results, from the arrays it is given -/

/-- The entries of the call's arguments, and the rotary frequencies. -/
structure Ins where
  x : Fin 4 → Fin 8192 → Fin 1024 → EReal
  pos : Fin 4 → Fin 8192 → EReal
  sc : Fin 4 → Fin 1024 → EReal
  sh : Fin 4 → Fin 1024 → EReal
  g : Fin 1024 → EReal
  w : Fin 1024 → Fin 3592 → EReal
  cw : Fin 4 → Fin 1024 → EReal
  cb : Fin 1024 → EReal
  bi : Fin 4 → EReal
  bf : Fin 4 → EReal
  fr : Fin 8 → EReal

namespace Ins

variable (A : Ins)

/-- One entry of a row's projection. -/
def z (i : Fin 4) (t : Fin 8192) (q : Fin 3592) : EReal := zAt (A.x i t) A.g (A.sc i) (A.sh i) (fun k => A.w k q)

/-- The projection `n` rows back, zero before the first row. -/
def past (n : ℕ) (i : Fin 4) (t : Fin 8192) (q : Fin 3592) : EReal :=
  if n ≤ t.val then A.z i ⟨t.val - n, by omega⟩ q else 0

/-- The causal convolution over the four latest rows. -/
def conv (i : Fin 4) (t : Fin 8192) (q : Fin 1024) : EReal :=
  A.z i t ⟨q.val, by omega⟩ * A.cw 3 q + A.cb q + A.past 1 i t ⟨q.val, by omega⟩ * A.cw 2 q
    + A.past 2 i t ⟨q.val, by omega⟩ * A.cw 1 q + A.past 3 i t ⟨q.val, by omega⟩ * A.cw 0 q

/-- The mLSTM's queries, then its keys scaled. -/
def qk (i : Fin 4) (t : Fin 8192) (q : Fin 1024) : EReal :=
  siluAt (A.conv i t q) * (if q.val < 512 then 1 else keyScale)

/-- The attention's queries, then its keys, the first sixteen lanes of each head turned. -/
def rot (i : Fin 4) (t : Fin 8192) (q : Fin 1024) : EReal :=
  if q.val % 64 < 8 then
    A.z i t ⟨2056 + q.val, by omega⟩ * Ideal.cos (A.pos i t * A.fr ⟨q.val % 64 % 8, by omega⟩)
      - A.z i t ⟨2056 + q.val + 8, by omega⟩ * Ideal.sin (A.pos i t * A.fr ⟨q.val % 64 % 8, by omega⟩)
  else if q.val % 64 < 16 then
    A.z i t ⟨2056 + q.val, by omega⟩ * Ideal.cos (A.pos i t * A.fr ⟨q.val % 64 % 8, by omega⟩)
      + A.z i t ⟨2056 + q.val - 8, by omega⟩ * Ideal.sin (A.pos i t * A.fr ⟨q.val % 64 % 8, by omega⟩)
  else A.z i t ⟨2056 + q.val, by omega⟩

/-- The attention's values, a row's in a column, over a row of ones and fifteen of zeros. -/
def turn (i : Fin 4) (h : Fin 8) (d : Fin 80) (t : Fin 8192) : EReal :=
  if _ : d.val < 64 then A.z i t ⟨3080 + 64 * h.val + d.val, by omega⟩ else if d.val = 64 then 1 else 0

/-- The gates: the inputs' caps, then the forgets' log-sigmoids, then lanes in no use. -/
def gate (i : Fin 4) (t : Fin 8192) (l : Fin 128) : EReal :=
  if h : l.val < 4 then capAt (A.z i t ⟨2048 + l.val, by omega⟩ + A.bi ⟨l.val, h⟩)
  else if h : l.val < 8 then logSigAt (capAt (A.z i t ⟨2048 + l.val, by omega⟩ + A.bf ⟨l.val - 4, by omega⟩))
  else logSigAt 0

/-- The mean key of each block of 256 rows. -/
def mean (i : Fin 4) (j : Fin 32) (q : Fin 512) : EReal :=
  Ideal.div (∑ r : Fin 256, A.rot i ⟨256 * j.val + r.val, by omega⟩ ⟨512 + q.val, by omega⟩) (cst 0x43800000#32)

end Ins

end Cert.InProj

end
-- ==== Proof.InRef.lean ====
/- The in-projection's reference, read at an index over the reals. -/
module

public import proofs.«01_k».proof.Proof.InSpec
public import proofs.«01_k».proof.Proof.Gen.Reference2Ideal.Run
public import Idealize.ShloMosaic.Lib.Pointwise

@[expose] public section

set_option maxRecDepth 16384

noncomputable section

namespace Cert.Reference2Ideal.InProj

open Cert.InProj Cert.Reference2Ideal Cert.Reference2Ideal.Gen Cert.Reference2Ideal.Value
open Idealize.ShloMosaic Idealize.ShloMosaic.TcCoe Idealize.ShloMosaic.StableHlo

variable (V0 : Valuation τ sig (Elt Ideal))

/-- The rotary frequencies. -/
def tab : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The entries of the reference's arguments. -/
def ins : Ins where
  x i t k := (V0 (Proc.devRef .tc main_arg0) : FVec Ideal S4x8192x1024 .f32) (ix3 i t k)
  pos i t := ((((V0 (Proc.devRef .tc main_arg1) : IVec S4x8192 32) (ix2 i t)).toInt : ℝ) : EReal)
  sc i k := (V0 (Proc.devRef .tc main_arg2) : FVec Ideal S4x1x1024 .f32) (ix3 i 0 k)
  sh i k := (V0 (Proc.devRef .tc main_arg3) : FVec Ideal S4x1x1024 .f32) (ix3 i 0 k)
  g k := (V0 (Proc.devRef .tc main_arg4) : FVec Ideal S1024 .f32) (ix1 k)
  w k q := (V0 (Proc.devRef .tc main_arg5) : FVec Ideal S1024x3592 .f32) (ix2 k q)
  cw n k := (V0 (Proc.devRef .tc main_arg6) : FVec Ideal S4x1024 .f32) (ix2 n k)
  cb k := (V0 (Proc.devRef .tc main_arg7) : FVec Ideal S1024 .f32) (ix1 k)
  bi n := (V0 (Proc.devRef .tc main_arg8) : FVec Ideal S4 .f32) (ix1 n)
  bf n := (V0 (Proc.devRef .tc main_arg9) : FVec Ideal S4 .f32) (ix1 n)
  fr d := tab (ix1 d)

/-- The reference's projection at an entry. -/
theorem v19_apply (i : Fin 4) (t : Fin 8192) (q : Fin 3592) : res_main_v19 V0 (ix3 i t q) = (ins V0).z i t q := by
  unfold res_main_v19
  show _ = zAt _ _ _ _ _
  unfold zAt hAt ins
  dsimp only
  generalize (V0 (Proc.devRef .tc main_arg0)) = a0
  generalize (V0 (Proc.devRef .tc main_arg2)) = a2
  generalize (V0 (Proc.devRef .tc main_arg3)) = a3
  generalize (V0 (Proc.devRef .tc main_arg4)) = a4
  generalize (V0 (Proc.devRef .tc main_arg5)) = a5
  change FVec Ideal S4x8192x1024 .f32 at a0
  change FVec Ideal S4x1x1024 .f32 at a2
  change FVec Ideal S4x1x1024 .f32 at a3
  change FVec Ideal S1024 .f32 at a4
  change FVec Ideal S1024x3592 .f32 at a5
  pointwise

/-- The sixteen rotated lanes' angles. -/
theorem v137_apply (i : Fin 4) (t : Fin 8192) (d : Fin 8) : res_main_v137 V0 (ix4 i t 0 d) = (ins V0).pos i t * (ins V0).fr d := by
  unfold res_main_v137
  show _ = _ * tab (ix1 d)
  unfold ins
  dsimp only
  generalize (V0 (Proc.devRef .tc main_arg1)) = a1
  change IVec S4x8192 32 at a1
  rw [← tab]
  generalize tab = T
  pointwise
  rfl

/-- The projection's first 1024 columns behind three rows of zeros. -/
theorem v31_apply (n : ℕ) (i : Fin 4) (t : Fin 8192) (T : Fin 8195) (hT : T.val + n = t.val + 3) (hn : n ≤ 3) (q : Fin 1024) :
    res_main_v31 V0 (ix3 i T q) = (ins V0).past n i t ⟨q.val, by omega⟩ := by
  unfold res_main_v31 Ins.past
  simp only [← v19_apply]
  generalize res_main_v19 V0 = z
  change FVec Ideal S4x8192x3592 .f32 at z
  pointwise
  by_cases h : n ≤ t.val
  · refine (dif_neg (by omega)).trans (Eq.trans ?_ (if_pos h).symm)
    have hz : ∀ (a b : Fin 8192) (u v : Fin 3592), a.val = b.val → u.val = v.val → z (ix3 i a u) = z (ix3 i b v) := fun a b u v h h' => by rw [Fin.ext h, Fin.ext h']
    by_cases h' : q.val < 512
    · exact (dif_pos h').trans (hz _ _ _ _ (by show T.val - 3 = t.val - n; omega) rfl)
    · exact (dif_neg h').trans (hz _ _ _ _ (by show T.val - 3 = t.val - n; omega) (by show 512 + (q.val - 512) = q.val; omega))
  · exact (dif_pos (by omega)).trans (if_neg h).symm

theorem conv_order (w0 w1 w2 w3 z0 z1 z2 z3 b : EReal) :
    w0 * z0 + w1 * z1 + w2 * z2 + w3 * z3 + b = z3 * w3 + b + z2 * w2 + z1 * w1 + z0 * w0 := by
  simp only [mul_comm, add_comm, add_left_comm, add_assoc]

/-- The convolution at an entry. -/
theorem v61_apply (i : Fin 4) (t : Fin 8192) (q : Fin 1024) : res_main_v61 V0 (ix3 i t q) = (ins V0).conv i t q := by
  unfold res_main_v61 Ins.conv
  have h0 := v31_apply V0 3 i t ⟨t.val, by omega⟩ rfl (by decide) q
  have h1 := v31_apply V0 2 i t ⟨1 + t.val, by omega⟩ (by show 1 + t.val + 2 = _; omega) (by decide) q
  have h2 := v31_apply V0 1 i t ⟨2 + t.val, by omega⟩ (by show 2 + t.val + 1 = _; omega) (by decide) q
  have h3 : _ = (ins V0).z i t ⟨q.val, by omega⟩ := (v31_apply V0 0 i t ⟨3 + t.val, by omega⟩ (by show 3 + t.val + 0 = _; omega) (by decide) q).trans (if_pos (Nat.zero_le _))
  rw [← h0, ← h1, ← h2, ← h3]
  generalize res_main_v31 V0 = z
  change FVec Ideal S4x8195x1024 .f32 at z
  unfold ins
  dsimp only
  pointwise
  exact conv_order ..

/-- The root of 128 is the real one. -/
theorem root_128 : Ideal.sqrt (cst 0x43000000#32) = ((Real.sqrt 128 : ℝ) : EReal) := by
  have e : cst 0x43000000#32 = ((128 : ℝ) : EReal) := by simp [cst, Ideal.ofBits, Ideal.ieee, -EReal.coe_mul]; norm_num
  rw [e]
  show (if (128 : ℝ) < 0 then ⊥ else ((Real.sqrt 128 : ℝ) : EReal)) = _
  rw [if_neg (by norm_num)]

/-- A quotient by the root of 128 is a product with its inverse. -/
theorem div_root (x : EReal) : Ideal.div x (Ideal.sqrt (cst 0x43000000#32)) = x * keyScale := by
  rw [root_128, Ideal.div_coe (Real.sqrt_ne_zero'.mpr (by norm_num)), one_div]
  rfl

theorem qk_apply (i : Fin 4) (t : Fin 8192) (q : Fin 1024) :
    (truncf .bf16 (concatenate S4x8192x1024 2 [⟨S4x8192x512, (extractStridedSlice S4x8192x512 ![0, 0, 0] (res_main_v68 V0) slices_S4x8192x1024_S4x8192x512_0_0_0)⟩, ⟨S4x8192x512, (Host.divf (extractStridedSlice S4x8192x512 ![0, 0, 512] (res_main_v68 V0) slices_S4x8192x1024_S4x8192x512_0_0_512) (broadcastInDim S4x8192x512 ![] bcast_S_S4x8192x512 (Host.sqrt (constant S_ .f32 0x43000000#32))))⟩] concatenates_S4x8192x512_S4x8192x512_S4x8192x1024_d2) bitsLt_bf16_f32 : FVec Ideal S4x8192x1024 .bf16) (ix3 i t q) = (ins V0).qk i t q := by
  unfold res_main_v68 Ins.qk siluAt
  simp only [← v61_apply]
  generalize res_main_v61 V0 = z
  change FVec Ideal S4x8192x1024 .f32 at z
  pointwise
  by_cases h : q.val < 512
  · rw [dif_pos h, if_pos h, mul_one]
  · have hq : (⟨512 + (q.val - 512), by omega⟩ : Fin 1024) = q := Fin.ext (by show 512 + (q.val - 512) = q.val; omega)
    rw [dif_neg h, if_neg h, hq]
    exact div_root _

theorem v_apply (i : Fin 4) (t : Fin 8192) (q : Fin 512) :
    (truncf .bf16 (extractStridedSlice S4x8192x512 ![0, 0, 1024] (res_main_v19 V0) slices_S4x8192x3592_S4x8192x512_0_0_1024) bitsLt_bf16_f32 : FVec Ideal S4x8192x512 .bf16) (ix3 i t q)
      = (ins V0).z i t ⟨1024 + q.val, by omega⟩ := by
  simp only [← v19_apply]
  generalize res_main_v19 V0 = z
  change FVec Ideal S4x8192x3592 .f32 at z
  pointwise

theorem o_apply (i : Fin 4) (t : Fin 8192) (q : Fin 512) :
    (truncf .bf16 (extractStridedSlice S4x8192x512 ![0, 0, 1536] (res_main_v19 V0) slices_S4x8192x3592_S4x8192x512_0_0_1536) bitsLt_bf16_f32 : FVec Ideal S4x8192x512 .bf16) (ix3 i t q)
      = (ins V0).z i t ⟨1536 + q.val, by omega⟩ := by
  simp only [← v19_apply]
  generalize res_main_v19 V0 = z
  change FVec Ideal S4x8192x3592 .f32 at z
  pointwise

/-- The keys, the first sixteen lanes of each head turned. -/
theorem v171_apply (i : Fin 4) (t : Fin 8192) (q : Fin 512) : res_main_v171 V0 (ix3 i t q) = (ins V0).rot i t ⟨512 + q.val, by omega⟩ := by
  unfold res_main_v171 res_main_v138 res_main_v139 res_main_v157 res_main_v158 res_main_v156 Ins.rot
  simp only [← v19_apply, ← v137_apply]
  generalize res_main_v19 V0 = z
  generalize res_main_v137 V0 = a
  change FVec Ideal S4x8192x3592 .f32 at z
  change FVec Ideal S4x8192x1x8 .f32 at a
  pointwise
  have hz : ∀ (u v : Fin 3592), u.val = v.val → z (ix3 i t u) = z (ix3 i t v) := fun u v h => by rw [Fin.ext h]
  have ha : ∀ (u v : Fin 8), u.val = v.val → a (ix4 i t 0 u) = a (ix4 i t 0 v) := fun u v h => by rw [Fin.ext h]
  by_cases h : q.val % 64 < 8
  · refine (dif_pos h).trans (Eq.trans ?_ (if_pos (by omega)).symm)
    refine congrArg₂ (· - ·) (congrArg₂ (· * ·) (hz _ _ ?_) (congrArg Ideal.cos (ha _ _ ?_))) (congrArg₂ (· * ·) (hz _ _ ?_) (congrArg Ideal.sin (ha _ _ ?_)))
    all_goals first | (dsimp only; omega) | omega
  refine (dif_neg h).trans (Eq.trans ?_ (if_neg (by omega)).symm)
  by_cases h' : q.val % 64 < 16
  · refine (dif_pos (by omega)).trans (Eq.trans ?_ (if_pos (by omega)).symm)
    refine congrArg₂ (· + ·) (congrArg₂ (· * ·) (hz _ _ ?_) (congrArg Ideal.cos (ha _ _ ?_))) (congrArg₂ (· * ·) (hz _ _ ?_) (congrArg Ideal.sin (ha _ _ ?_)))
    all_goals first | (dsimp only; omega) | omega
  · refine (dif_neg (by omega)).trans (Eq.trans ?_ (if_neg (by omega)).symm)
    exact hz _ _ (by show 2568 + (q.val / 64 * 64 + (16 + (q.val % 64 - 8 - 8))) = 2056 + (512 + q.val); omega)

theorem rot_apply (i : Fin 4) (t : Fin 8192) (q : Fin 1024) :
    (truncf .bf16 (concatenate S4x8192x1024 2 [⟨S4x8192x512, (shapeCast _ ((concatenate S4x8192x8x64 3 [⟨S4x8192x8x8, ((subf (mulf (res_main_v141 V0) (broadcastInDim S4x8192x8x8 ![0, 1, 2, 3] bcast_S4x8192x1x8_S4x8192x8x8_0_1_2_3 (res_main_v138 V0))) (mulf (res_main_v142 V0) (broadcastInDim S4x8192x8x8 ![0, 1, 2, 3] bcast_S4x8192x1x8_S4x8192x8x8_0_1_2_3 (res_main_v139 V0)))) : (⟨S4x8192x8x8, .f32⟩ : BufTy).Contents (Elt Ideal))⟩, ⟨S4x8192x8x8, ((addf (mulf (res_main_v142 V0) (broadcastInDim S4x8192x8x8 ![0, 1, 2, 3] bcast_S4x8192x1x8_S4x8192x8x8_0_1_2_3 (res_main_v138 V0))) (mulf (res_main_v141 V0) (broadcastInDim S4x8192x8x8 ![0, 1, 2, 3] bcast_S4x8192x1x8_S4x8192x8x8_0_1_2_3 (res_main_v139 V0)))) : (⟨S4x8192x8x8, .f32⟩ : BufTy).Contents (Elt Ideal))⟩, ⟨S4x8192x8x48, ((extractStridedSlice S4x8192x8x48 ![0, 0, 0, 16] (res_main_v140 V0) slices_S4x8192x8x64_S4x8192x8x48_0_0_0_16) : (⟨S4x8192x8x48, .f32⟩ : BufTy).Contents (Elt Ideal))⟩] concatenates_S4x8192x8x8_S4x8192x8x8_S4x8192x8x48_S4x8192x8x64_d3 : (⟨S4x8192x8x64, .f32⟩ : BufTy).Contents (Elt Ideal))) shapeCasts_S4x8192x8x64_S4x8192x512)⟩, ⟨S4x8192x512, (res_main_v171 V0)⟩] concatenates_S4x8192x512_S4x8192x512_S4x8192x1024_d2) bitsLt_bf16_f32 : FVec Ideal S4x8192x1024 .bf16) (ix3 i t q) = (ins V0).rot i t q := by
  have hk := v171_apply V0 i t
  generalize res_main_v171 V0 = k at *
  unfold res_main_v138 res_main_v139 res_main_v141 res_main_v142 res_main_v140
  by_cases h0 : 512 ≤ q.val
  · generalize res_main_v19 V0 = z
    generalize res_main_v137 V0 = a
    change FVec Ideal S4x8192x3592 .f32 at z
    change FVec Ideal S4x8192x1x8 .f32 at a
    change FVec Ideal S4x8192x512 .f32 at k
    pointwise
    refine (dif_neg (by omega)).trans ?_
    refine (hk _).trans (congrArg ((ins V0).rot i t) (Fin.ext ?_))
    show 512 + (q.val - 512) = q.val
    omega
  unfold Ins.rot
  simp only [← v19_apply, ← v137_apply]
  clear hk
  generalize res_main_v19 V0 = z
  generalize res_main_v137 V0 = a
  change FVec Ideal S4x8192x3592 .f32 at z
  change FVec Ideal S4x8192x1x8 .f32 at a
  change FVec Ideal S4x8192x512 .f32 at k
  pointwise
  have hz : ∀ (u v : Fin 3592), u.val = v.val → z (ix3 i t u) = z (ix3 i t v) := fun u v h => by rw [Fin.ext h]
  have ha : ∀ (u v : Fin 8), u.val = v.val → a (ix4 i t 0 u) = a (ix4 i t 0 v) := fun u v h => by rw [Fin.ext h]
  refine (dif_pos (by omega)).trans ?_
  by_cases h : q.val % 64 < 8
  · refine (dif_pos h).trans (Eq.trans ?_ (if_pos (by omega)).symm)
    refine congrArg₂ (· - ·) (congrArg₂ (· * ·) (hz _ _ ?_) (congrArg Ideal.cos (ha _ _ ?_))) (congrArg₂ (· * ·) (hz _ _ ?_) (congrArg Ideal.sin (ha _ _ ?_)))
    all_goals first | (dsimp only; omega) | omega
  refine (dif_neg h).trans (Eq.trans ?_ (if_neg (by omega)).symm)
  by_cases h' : q.val % 64 < 16
  · refine (dif_pos (by omega)).trans (Eq.trans ?_ (if_pos (by omega)).symm)
    refine congrArg₂ (· + ·) (congrArg₂ (· * ·) (hz _ _ ?_) (congrArg Ideal.cos (ha _ _ ?_))) (congrArg₂ (· * ·) (hz _ _ ?_) (congrArg Ideal.sin (ha _ _ ?_)))
    all_goals first | (dsimp only; omega) | omega
  · refine (dif_neg (by omega)).trans (Eq.trans ?_ (if_neg (by omega)).symm)
    exact hz _ _ (by show 2056 + (q.val / 64 * 64 + (16 + (q.val % 64 - 8 - 8))) = 2056 + q.val; omega)

theorem turn_apply (i : Fin 4) (h : Fin 8) (j : Fin 32) (d : Fin 80) (r : Fin 256) (T : Fin 8192) (hT : T.val = 256 * j.val + r.val) :
    (truncf .bf16 ((concatenate S4x8x32x80x256 3 [⟨S4x8x32x64x256, ((transpose S4x8x32x64x256 [0, 3, 1, 4, 2] (shapeCast _ (shapeCast _ (extractStridedSlice S4x8192x512 ![0, 0, 3080] (res_main_v19 V0) slices_S4x8192x3592_S4x8192x512_0_0_3080) shapeCasts_S4x8192x512_S4x8192x8x64) shapeCasts_S4x8192x8x64_S4x32x256x8x64) transposes_S4x32x256x8x64_S4x8x32x64x256_0_3_1_4_2) : (⟨S4x8x32x64x256, .f32⟩ : BufTy).Contents (Elt Ideal))⟩, ⟨S4x8x32x1x256, (broadcastInDim S4x8x32x1x256 ![] bcast_S_S4x8x32x1x256 (constant S_ .f32 0x3F800000#32) : FVec Ideal S4x8x32x1x256 .f32)⟩, ⟨S4x8x32x15x256, (broadcastInDim S4x8x32x15x256 ![] bcast_S_S4x8x32x15x256 (constant S_ .f32 0x00000000#32) : FVec Ideal S4x8x32x15x256 .f32)⟩] concatenates_S4x8x32x64x256_S4x8x32x1x256_S4x8x32x15x256_S4x8x32x80x256_d3 : (⟨S4x8x32x80x256, .f32⟩ : BufTy).Contents (Elt Ideal))) bitsLt_bf16_f32 : FVec Ideal S4x8x32x80x256 .bf16) (ix5 i h j d r) = (ins V0).turn i h d T := by
  unfold Ins.turn
  simp only [← v19_apply]
  generalize res_main_v19 V0 = z
  change FVec Ideal S4x8192x3592 .f32 at z
  pointwise
  by_cases h' : d.val < 64
  · refine (dif_pos h').trans (Eq.trans ?_ (dif_pos h').symm)
    exact congrArg₂ (fun a u => z (ix3 i a u)) (Fin.ext (by show j.val * 256 + r.val = T.val; omega)) (Fin.ext (by show 3080 + (h.val * 64 + d.val) = 3080 + 64 * h.val + d.val; omega))
  · refine (dif_neg h').trans (Eq.trans ?_ (dif_neg h').symm)
    by_cases h1 : d.val = 64
    · exact (dif_pos (by omega)).trans (if_pos h1).symm
    · exact (dif_neg (by omega)).trans (if_neg h1).symm

theorem neg_max (t : EReal) : -max (-t) 0 = min t 0 := by
  rcases le_total t 0 with h | h
  · rw [max_eq_left (by rw [EReal.le_neg]; simpa using h), min_eq_left h, neg_neg]
  · rw [max_eq_right (by rw [EReal.neg_le]; simpa using h), min_eq_right h, neg_zero]

theorem log1p_exp_ne (u : EReal) : Ideal.log1p (Ideal.exp u) ≠ ⊥ := by
  have key : ∀ r : ℝ, 0 ≤ r → Ideal.log1p (r : EReal) ≠ ⊥ := fun r hr => by
    unfold Ideal.log1p
    rw [← EReal.coe_one, ← EReal.coe_add, Ideal.log_coe, if_neg (by linarith)]
    exact EReal.coe_ne_bot _
  induction u with
  | bot => exact key 0 le_rfl
  | top => show Ideal.log (1 + ⊤) ≠ ⊥; rw [EReal.add_top_of_ne_bot (by decide)]; exact top_ne_bot
  | coe r => exact key _ (Real.exp_pos r).le

/-- The reference's log-sigmoid. -/
theorem logSig_ref (t : EReal) {inst : Decidable (-t ≠ -t)} :
    -(@ite _ (-t ≠ -t) inst (-t) (max (-t) 0 + Ideal.log1p (Ideal.exp (-max (-t) (-(-t)))))) = logSigAt t := by
  rw [if_neg (fun h => h rfl), neg_neg]
  unfold logSigAt
  rw [max_comm (-t) t]
  have hb := log1p_exp_ne (-max t (-t))
  rw [EReal.neg_add (Or.inl (ne_of_gt (lt_of_lt_of_le EReal.bot_lt_zero (le_max_right _ _)))) (Or.inr hb), neg_max]
  rfl

theorem gate_apply (i : Fin 4) (t : Fin 8192) (l : Fin 128) :
    ((concatenate S4x8192x128 2 [⟨S4x8192x4, ((mulf (broadcastInDim S4x8192x4 ![] bcast_S_S4x8192x4 (constant S_ .f32 0x41700000#32)) (Host.tanh (Host.divf (addf (extractStridedSlice S4x8192x4 ![0, 0, 2048] (res_main_v19 V0) slices_S4x8192x3592_S4x8192x4_0_0_2048) (broadcastInDim S4x8192x4 ![0, 1, 2] bcast_S1x1x4_S4x8192x4_0_1_2 (broadcastInDim S1x1x4 ![2] bcast_S4_S1x1x4_2 (V0 (Proc.devRef .tc main_arg8))))) (broadcastInDim S4x8192x4 ![] bcast_S_S4x8192x4 (constant S_ .f32 0x41700000#32))))) : (⟨S4x8192x4, .f32⟩ : BufTy).Contents (Elt Ideal))⟩, ⟨S4x8192x4, ((Host.negf (select (cmpf .une (res_main_v94 V0) (res_main_v94 V0)) (addf (res_main_v90 V0) (broadcastInDim S4x8192x4 ![] bcast_S_S4x8192x4 (res_main_cst_11 V0))) (addf (maximumf (res_main_v90 V0) (broadcastInDim S4x8192x4 ![] bcast_S_S4x8192x4 (res_main_cst_11 V0))) (Host.log1p (Host.exp (Host.negf (Host.absf (res_main_v94 V0)))))))) : (⟨S4x8192x4, .f32⟩ : BufTy).Contents (Elt Ideal))⟩, ⟨S4x8192x120, ((broadcastInDim S4x8192x120 ![0, 1, 2] bcast_S1x1x1_S4x8192x120_0_1_2 (Host.negf (select (cmpf .une (res_main_v110 V0) (res_main_v110 V0)) (addf (res_main_v106 V0) (broadcastInDim S1x1x1 ![] bcast_S_S1x1x1 (res_main_cst_13 V0))) (addf (maximumf (res_main_v106 V0) (broadcastInDim S1x1x1 ![] bcast_S_S1x1x1 (res_main_cst_13 V0))) (Host.log1p (Host.exp (Host.negf (Host.absf (res_main_v110 V0))))))))) : (⟨S4x8192x120, .f32⟩ : BufTy).Contents (Elt Ideal))⟩] concatenates_S4x8192x4_S4x8192x4_S4x8192x120_S4x8192x128_d2 : (⟨S4x8192x128, .f32⟩ : BufTy).Contents (Elt Ideal)) : FVec Ideal S4x8192x128 .f32) (ix3 i t l) = (ins V0).gate i t l := by
  unfold Ins.gate res_main_v94 res_main_v110 res_main_v90 res_main_v106 res_main_cst_11 res_main_cst_13 capAt
  simp only [← v19_apply]
  generalize res_main_v19 V0 = z
  unfold ins
  dsimp only
  generalize (V0 (Proc.devRef .tc main_arg8)) = a8
  generalize (V0 (Proc.devRef .tc main_arg9)) = a9
  change FVec Ideal S4x8192x3592 .f32 at z
  change FVec Ideal S4 .f32 at a8
  change FVec Ideal S4 .f32 at a9
  pointwise
  refine dite_congr rfl (fun h => rfl) fun h => ?_
  by_cases h' : l.val < 8
  · refine (dif_pos (by omega)).trans (Eq.trans ?_ (dif_pos h').symm)
    have hz : (⟨2052 + (l.val - 4), by omega⟩ : Fin 3592) = ⟨2048 + l.val, by omega⟩ := Fin.ext (by show 2052 + (l.val - 4) = 2048 + l.val; omega)
    exact (logSig_ref _).trans (congrArg (fun u => logSigAt (cst 0x41700000#32 * Ideal.tanh (Ideal.div (z (ix3 i t u) + a9 (ix1 ⟨l.val - 4, by omega⟩)) (cst 0x41700000#32)))) hz)
  · refine (dif_neg (by omega)).trans (Eq.trans ?_ (dif_neg h').symm)
    exact logSig_ref 0

theorem mean_apply (i : Fin 4) (j : Fin 32) (q : Fin 512) :
    (Host.divf (broadcastInDim S4x32x1x512 ![0, 1, 3] bcast_S4x32x512_S4x32x1x512_0_1_3 (Host.reduceAdd (shapeCast _ (res_main_v171 V0) shapeCasts_S4x8192x512_S4x32x256x512) (constant S_ .f32 0x00000000#32) reducesTo_S4x32x256x512_S4x32x512_d2 h_S_)) (broadcastInDim S4x32x1x512 ![] bcast_S_S4x32x1x512 (constant S_ .f32 0x43800000#32)) : FVec Ideal S4x32x1x512 .f32) (ix4 i j 0 q) = (ins V0).mean i j q := by
  unfold Ins.mean
  simp only [← v171_apply]
  generalize res_main_v171 V0 = k
  change FVec Ideal S4x8192x512 .f32 at k
  pointwise
  refine congrArg (fun e => Ideal.div e (Ideal.ofBits .f32 0x43800000#32)) (Finset.sum_congr rfl fun r _ => ?_)
  exact congrArg (fun u => k (ix3 i u q)) (Fin.ext (by show j.val * 256 + r.val = 256 * j.val + r.val; omega))

end Cert.Reference2Ideal.InProj

end
-- ==== Proof.InPay.lean ====
/- The in-projection kernel's payloads at an entry. -/
module

public import proofs.«01_k».proof.Proof.Gen.Kernel2Ideal.Skeleton
public import proofs.«01_k».proof.Proof.InSpec

@[expose] public section

set_option maxRecDepth 16384

noncomputable section

namespace Cert.Kernel2Ideal.InProj

open Cert.InProj Cert.Kernel2Ideal Cert.Kernel2Ideal.Gen
open Idealize.ShloMosaic Idealize.ShloMosaic.TcCoe

variable (x : Vec Ideal S1x256x1024 .f32) (g : Vec Ideal S1x1024 .f32) (sc sh : Vec Ideal S1x1x1024 .f32)

theorem pay2_apply (r : Fin 256) (k : Fin 1024) :
    k0_pay2 x g sc sh (ix2 r k) = hAt (fun k => x (ix3 0 r k)) (fun k => g (ix2 0 k)) (fun k => sc (ix3 0 0 k)) (fun k => sh (ix3 0 0 k)) k := by
  unfold hAt
  pointwise [cst, k0_pay2]

theorem pay10_apply (h : FVec Ideal S256x1024 .bf16) (w : Vec Ideal S1024x512 .bf16) (r : Fin 256) (q : Fin 512) :
    k0_pay10 h w (ix3 0 r q) = ∑ k, h (ix2 r k) * w (ix2 k q) := by
  pointwise [k0_pay10]

theorem pay12_apply (h : FVec Ideal S256x1024 .bf16) (w : Vec Ideal S1024x512 .bf16) (r : Fin 256) (q : Fin 512) :
    k0_pay12 (k0_pay11 h w) (ix3 0 r q) = ∑ k, h (ix2 r k) * w (ix2 k q) := by
  pointwise [k0_pay11, k0_pay12]

theorem pay4_apply (w : Vec Ideal S1024x1024 .bf16) (r : Fin 256) (q : Fin 1024) :
    k0_pay4 x g sc sh w (ix2 r q) = ∑ k, k0_pay2 x g sc sh (ix2 r k) * w (ix2 k q) := by
  generalize hh : k0_pay2 x g sc sh = h
  simp only [k0_pay4, hh]
  pointwise

theorem pay13_apply (h : FVec Ideal S256x1024 .bf16) (w : Vec Ideal S1024x1536 .bf16) (r : Fin 256) (q : Fin 1536) :
    k0_pay13 h w (ix2 r q) = ∑ k, h (ix2 r k) * w (ix2 k q) := by
  pointwise [k0_pay13]

/-! ## The convolution -/

/-- A row of the convolution's window `n` rows back: of the rows before the block, or of the block. -/
def back (n : ℕ) (z : FVec Ideal S256x1024 .f32) (s : FVec Ideal S8x1024 .f32) (r : Fin 256) (q : Fin 1024) : EReal :=
  if r.val < n then s (ix2 ⟨(r.val + 8 - n) % 8, Nat.mod_lt _ (by decide)⟩ q) else z (ix2 ⟨r.val - n, by omega⟩ q)

theorem slt_small : ∀ n : Fin 4, ∀ a : Fin 8, IntOp.cmpi .slt (BitVec.ofNat 32 a.val) (BitVec.ofNat 32 n.val) = if a.val < n.val then 1#1 else 0#1 := by
  decide

/-- The window's row as the kernel reads it: the first eight rows from a turned copy of the rows before, the others from a turned copy of the block. -/
theorem back_eq (n : ℕ) (hn : n < 4) (z : FVec Ideal S256x1024 .f32) (s : FVec Ideal S8x1024 .f32) (r : Fin 256) (q : Fin 1024) (w : BitVec 32) (hw : w = BitVec.ofNat 32 n)
    (h1 : (r.val + 8 - n) % 8 < 8) (h2 : (r.val + 256 - n) % 256 < 256) (h3 : (8 + (r.val - 8) + 256 - n) % 256 < 256) :
    (if _ : r.val < 8 then Scalar.select (IntOp.cmpi .slt (BitVec.ofNat 32 r.val) w) (s (ix2 ⟨(r.val + 8 - n) % 8, h1⟩ q)) (z (ix2 ⟨(r.val + 256 - n) % 256, h2⟩ q))
      else z (ix2 ⟨(8 + (r.val - 8) + 256 - n) % 256, h3⟩ q)) = back n z s r q := by
  have hr := r.isLt
  unfold back
  by_cases h8 : r.val < 8
  · rw [dif_pos h8, hw, slt_small ⟨n, hn⟩ ⟨r.val, h8⟩]
    by_cases hlt : r.val < n
    · simp [hlt, Scalar.select]
    · have : (⟨(r.val + 256 - n) % 256, h2⟩ : Fin 256) = ⟨r.val - n, by omega⟩ := Fin.ext (by show (r.val + 256 - n) % 256 = r.val - n; omega)
      simp [hlt, Scalar.select, this]
  · have : (⟨(8 + (r.val - 8) + 256 - n) % 256, h3⟩ : Fin 256) = ⟨r.val - n, by omega⟩ :=
      Fin.ext (by show (8 + (r.val - 8) + 256 - n) % 256 = r.val - n; omega)
    rw [dif_neg h8, if_neg (by omega), this]

theorem pay6_apply (z : FVec Ideal S256x1024 .f32) (s : FVec Ideal S8x1024 .f32) (r : Fin 256) (q : Fin 1024) :
    k0_pay6 z s (iota .tc S8x1024 32 [0] iota_S8x1024_d0_w32) (ix2 r q) = back 3 z s r q := by
  rw [← back_eq 3 (by decide) z s r q 3#32 rfl (Nat.mod_lt _ (by decide)) (Nat.mod_lt _ (by decide)) (Nat.mod_lt _ (by decide))]
  pointwise [k0_pay6]

theorem pay5_apply (z : FVec Ideal S256x1024 .f32) (s : FVec Ideal S8x1024 .f32) (c3 cb c2 c1 : Vec Ideal S1x1024 .f32) (r : Fin 256) (q : Fin 1024) :
    k0_pay5 z s (iota .tc S8x1024 32 [0] iota_S8x1024_d0_w32) c3 cb c2 c1 (ix2 r q) =
      z (ix2 r q) * c3 (ix2 0 q) + cb (ix2 0 q) + back 1 z s r q * c2 (ix2 0 q) + back 2 z s r q * c1 (ix2 0 q) := by
  rw [← back_eq 1 (by decide) z s r q 1#32 rfl (Nat.mod_lt _ (by decide)) (Nat.mod_lt _ (by decide)) (Nat.mod_lt _ (by decide)),
    ← back_eq 2 (by decide) z s r q 2#32 rfl (Nat.mod_lt _ (by decide)) (Nat.mod_lt _ (by decide)) (Nat.mod_lt _ (by decide))]
  pointwise [k0_pay5]

theorem slt_512 : ∀ q : Fin 1024, IntOp.cmpi .slt (BitVec.ofNat 32 q.val) 512#32 = if q.val < 512 then 1#1 else 0#1 := by decide +kernel

theorem pay9_apply (a b c : FVec Ideal S256x1024 .f32) (r : Fin 256) (q : Fin 1024) :
    k0_pay9 a b c (ix3 0 r q) = siluAt (a (ix2 r q) + b (ix2 r q) * c (ix2 r q)) * (if q.val < 512 then 1 else keyScale) := by
  unfold siluAt
  pointwise [cst, k0_pay9]
  rw [slt_512 q, zero_sub, show (Named.named κ "key_scale" 0x3DB504F3#32 : Ideal .f32) = keyScale from rfl]
  by_cases h : q.val < 512 <;> simp [h, Scalar.select]

theorem pay7_apply (c : Vec Ideal S1x1024 .f32) (r : Fin 256) (q : Fin 1024) : k0_pay7 c (ix2 r q) = c (ix2 0 q) := by
  pointwise [k0_pay7]

theorem pay8_apply (z : FVec Ideal S256x1024 .f32) (r : Fin 8) (q : Fin 1024) : k0_pay8 z (ix2 r q) = z (ix2 ⟨248 + r.val, by omega⟩ q) := by
  pointwise [k0_pay8]

theorem pay3_apply (r : Fin 8) (q : Fin 1024) : k0_pay3 (F := Ideal) (ix2 r q) = 0 := by
  pointwise [k0_pay3]

/-! ## The gates -/

theorem slt_4 : ∀ q : Fin 128, IntOp.cmpi .slt (BitVec.ofNat 32 q.val) 4#32 = if q.val < 4 then 1#1 else 0#1 := by decide +kernel

theorem pay1_apply (h : FVec Ideal S256x1024 .bf16) (w : Vec Ideal S1024x128 .bf16) (gb : Vec Ideal S1x128 .f32) (r : Fin 256) (l : Fin 128) :
    k0_pay1 (k0_pay54 h (iota .tc S256x128 32 [1] iota_S256x128_d1_w32) w gb) (ix3 0 r l) =
      if l.val < 4 then capAt (∑ k, h (ix2 r k) * w (ix2 k l) + gb (ix2 0 l)) else logSigAt (capAt (∑ k, h (ix2 r k) * w (ix2 k l) + gb (ix2 0 l))) := by
  unfold capAt logSigAt
  pointwise [cst, k0_pay1, k0_pay54]
  rw [slt_4 l, zero_sub]
  by_cases h : l.val < 4
  · simp [h, Scalar.select]
  · simp only [h, Scalar.select, if_false]
    rfl

/-! ## The rotary queries and keys -/

theorem pay16_apply (r : Fin 256) (l : Fin 128) : k0_pay16 (ix2 r l) = if l.val % 64 < 8 then 1#1 else 0#1 := by
  pointwise [k0_pay16]
  revert l
  decide +kernel

/-- A rotary entry: its own column by the cosine and its partner's by the sine. -/
def ropeG (z : FVec Ideal S256x1536 .f32) (cos sin : FVec Ideal S256x128 .f32) (r : Fin 256) (q : Fin 1024) : EReal :=
  z (ix2 r ⟨q.val, by omega⟩) * cos (ix2 r ⟨q.val % 128, Nat.mod_lt _ (by decide)⟩) +
    (if q.val % 64 < 8 then z (ix2 r ⟨q.val / 128 * 128 + (q.val % 128 + 8) % 128, by omega⟩)
      else z (ix2 r ⟨q.val / 128 * 128 + (q.val % 128 + 120) % 128, by omega⟩)) * sin (ix2 r ⟨q.val % 128, Nat.mod_lt _ (by decide)⟩)

theorem ropeG_eq (z : FVec Ideal S256x1536 .f32) (cos sin : FVec Ideal S256x128 .f32) (r : Fin 256) (q : Fin 1024) (l : Fin 128) (a b c : Fin 1536)
    (hl : q.val % 128 = l.val) (ha : a.val = q.val) (hb : b.val = q.val / 128 * 128 + (l.val + 8) % 128) (hc : c.val = q.val / 128 * 128 + (l.val + 120) % 128) :
    z (ix2 r a) * cos (ix2 r l) + Scalar.select (if l.val % 64 < 8 then 1#1 else 0#1) (z (ix2 r b)) (z (ix2 r c)) * sin (ix2 r l) = ropeG z cos sin r q := by
  obtain ⟨l, hl'⟩ := l
  obtain ⟨a, ha'⟩ := a
  obtain ⟨b, hb'⟩ := b
  obtain ⟨c, hc'⟩ := c
  dsimp only at hl ha hb hc
  subst hl ha hb hc
  have h : q.val % 128 % 64 = q.val % 64 := by omega
  unfold ropeG
  dsimp only
  rw [h]
  by_cases hq : q.val % 64 < 8 <;> simp [hq, Scalar.select]

variable (z : FVec Ideal S256x1536 .f32) (cos sin : FVec Ideal S256x128 .f32) (r : Fin 256) (l : Fin 128)

theorem rope_chunks (w : Vec Ideal S1024x1536 .bf16) (h : FVec Ideal S256x1024 .bf16) (c s : Vec Ideal S1x256x128 .f32) :
    k0_pay18 (k0_pay17 h w c s) (ix3 0 r l) = ropeG (k0_pay13 h w) (k0_pay14 c) (k0_pay15 s) r ⟨l.val, by omega⟩
    ∧ k0_pay19 z cos sin k0_pay16 (ix3 0 r l) = ropeG z cos sin r ⟨128 + l.val, by omega⟩
    ∧ k0_pay20 z cos sin k0_pay16 (ix3 0 r l) = ropeG z cos sin r ⟨256 + l.val, by omega⟩
    ∧ k0_pay21 z cos sin k0_pay16 (ix3 0 r l) = ropeG z cos sin r ⟨384 + l.val, by omega⟩
    ∧ k0_pay23 cos sin k0_pay16 (k0_pay22 z) 120#32 (ix2 r l) = ropeG z cos sin r ⟨512 + l.val, by omega⟩
    ∧ k0_pay26 z cos sin k0_pay16 (ix2 r l) = ropeG z cos sin r ⟨640 + l.val, by omega⟩
    ∧ k0_pay29 z cos sin k0_pay16 (ix2 r l) = ropeG z cos sin r ⟨768 + l.val, by omega⟩
    ∧ k0_pay32 z cos sin k0_pay16 (ix2 r l) = ropeG z cos sin r ⟨896 + l.val, by omega⟩ := by
  unfold k0_pay17
  generalize k0_pay13 h w = z', k0_pay14 c = c', k0_pay15 s = s'
  refine ⟨?_, ?_, ?_, ?_, ?_, ?_, ?_, ?_⟩
  all_goals
    pointwise [k0_pay18, k0_pay19, k0_pay20, k0_pay21, k0_pay22, k0_pay23, k0_pay26, k0_pay29, k0_pay32]
    rw [pay16_apply]
    refine ropeG_eq _ _ _ r _ l _ _ _ ?_ ?_ ?_ ?_ <;> dsimp only <;> omega

theorem key_chunks :
    k0_pay24 cos sin k0_pay16 (k0_pay22 z) 120#32 (ix3 0 r l) = ropeG z cos sin r ⟨512 + l.val, by omega⟩
    ∧ k0_pay27 z cos sin k0_pay16 (ix3 0 r l) = ropeG z cos sin r ⟨640 + l.val, by omega⟩
    ∧ k0_pay30 z cos sin k0_pay16 (ix3 0 r l) = ropeG z cos sin r ⟨768 + l.val, by omega⟩
    ∧ k0_pay33 z cos sin k0_pay16 (ix3 0 r l) = ropeG z cos sin r ⟨896 + l.val, by omega⟩ := by
  have h := rope_chunks z cos sin r l 0 0 0 0
  obtain ⟨-, -, -, -, h4, h5, h6, h7⟩ := h
  refine ⟨?_, ?_, ?_, ?_⟩
  · rw [← h4]; generalize hk : k0_pay23 cos sin k0_pay16 (k0_pay22 z) 120#32 = k; simp only [k0_pay24, hk]; pointwise
  · rw [← h5]; generalize hk : k0_pay26 z cos sin k0_pay16 = k; simp only [k0_pay27, hk]; pointwise
  · rw [← h6]; generalize hk : k0_pay29 z cos sin k0_pay16 = k; simp only [k0_pay30, hk]; pointwise
  · rw [← h7]; generalize hk : k0_pay32 z cos sin k0_pay16 = k; simp only [k0_pay33, hk]; pointwise

/-- The mean of a key column over the block's rows. -/
def meanG (q : Fin 512) : EReal := Ideal.div (∑ r : Fin 256, ropeG z cos sin r ⟨512 + q.val, by omega⟩) (cst 0x43800000#32)

theorem mean_chunks :
    k0_pay25 cos sin k0_pay16 (k0_pay22 z) 120#32 (ix4 0 0 0 l) = meanG z cos sin ⟨l.val, by omega⟩
    ∧ k0_pay28 z cos sin k0_pay16 (ix4 0 0 0 l) = meanG z cos sin ⟨128 + l.val, by omega⟩
    ∧ k0_pay31 z cos sin k0_pay16 (ix4 0 0 0 l) = meanG z cos sin ⟨256 + l.val, by omega⟩
    ∧ k0_pay35 (k0_pay34 z cos sin k0_pay16) (ix4 0 0 0 l) = meanG z cos sin ⟨384 + l.val, by omega⟩ := by
  have h := fun r => rope_chunks z cos sin r l 0 0 0 0
  unfold meanG
  have e1 : ∀ n, 512 + (128 + n) = 640 + n := fun n => by omega
  have e2 : ∀ n, 512 + (256 + n) = 768 + n := fun n => by omega
  have e3 : ∀ n, 512 + (384 + n) = 896 + n := fun n => by omega
  simp only [e1, e2, e3, ← (h _).2.2.2.2.1, ← (h _).2.2.2.2.2.1, ← (h _).2.2.2.2.2.2.1, ← (h _).2.2.2.2.2.2.2]
  refine ⟨?_, ?_, ?_, ?_⟩
  · generalize hk : k0_pay23 cos sin k0_pay16 (k0_pay22 z) 120#32 = k; simp only [k0_pay25, hk]; pointwise [cst]
  · generalize hk : k0_pay26 z cos sin k0_pay16 = k; simp only [k0_pay28, hk]; pointwise [cst]
  · generalize hk : k0_pay29 z cos sin k0_pay16 = k; simp only [k0_pay31, hk]; pointwise [cst]
  · generalize hk : k0_pay32 z cos sin k0_pay16 = k; simp only [k0_pay34, hk, k0_pay35]; pointwise [cst]

theorem pay14_apply (c : Vec Ideal S1x256x128 .f32) : k0_pay14 c (ix2 r l) = c (ix3 0 r l) := by
  pointwise [k0_pay14]

theorem pay15_apply (c : Vec Ideal S1x256x128 .f32) : k0_pay15 c (ix2 r l) = c (ix3 0 r l) := by
  pointwise [k0_pay15]

/-! ## The turned values -/

/-- An entry of a head's values, turned, over a row of ones and rows of zeros. -/
def turnG (z : FVec Ideal S256x1536 .f32) (h : Fin 8) (d : Fin 80) (r : Fin 256) : EReal :=
  if hd : d.val < 64 then z (ix2 r ⟨1024 + 64 * h.val + d.val, by omega⟩) else if d.val = 64 then 1 else 0

theorem eq_zero_word : ∀ d : Fin 80, 64 ≤ d.val → IntOp.cmpi .eq (BitVec.ofNat 32 (d.val - 64)) 0#32 = if d.val = 64 then 1#1 else 0#1 := by decide +kernel

theorem one_row (d : Fin 80) (hd : ¬ d.val < 64) :
    (FloatOps.sitofp .f32 (BitVec.setWidth 32 (IntOp.cmpi .eq (BitVec.ofNat 32 (d.val - 64)) 0#32)) : Ideal .f32) = if d.val = 64 then 1 else 0 := by
  rw [eq_zero_word d (by omega)]
  by_cases h : d.val = 64
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp

theorem turnG_eq (d : Fin 80) (h : Fin 8) (a : d.val < 64 → Fin 1536) (w : EReal) (ha : ∀ hd, (a hd).val = 1024 + 64 * h.val + d.val)
    (hw : ¬ d.val < 64 → w = if d.val = 64 then 1 else 0) : (if hd : d.val < 64 then z (ix2 r (a hd)) else w) = turnG z h d r := by
  unfold turnG
  by_cases hd : d.val < 64
  · rw [dif_pos hd, dif_pos hd]
    exact congrArg (fun a => z (ix2 r a)) (Fin.ext (ha hd))
  · rw [dif_neg hd, dif_neg hd, hw hd]

theorem turn_chunks (d : Fin 80) :
    k0_pay38 z (ix5 0 0 0 d r) = turnG z ⟨0, by decide⟩ d r ∧ k0_pay39 z (ix5 0 0 0 d r) = turnG z ⟨1, by decide⟩ d r
    ∧ k0_pay42 z (ix5 0 0 0 d r) = turnG z ⟨2, by decide⟩ d r ∧ k0_pay44 (k0_pay43 z) (ix5 0 0 0 d r) = turnG z ⟨3, by decide⟩ d r
    ∧ k0_pay47 z (ix5 0 0 0 d r) = turnG z ⟨4, by decide⟩ d r ∧ k0_pay48 z (ix5 0 0 0 d r) = turnG z ⟨5, by decide⟩ d r
    ∧ k0_pay51 z (ix5 0 0 0 d r) = turnG z ⟨6, by decide⟩ d r ∧ k0_pay53 (k0_pay52 z) (ix5 0 0 0 d r) = turnG z ⟨7, by decide⟩ d r := by
  refine ⟨?_, ?_, ?_, ?_, ?_, ?_, ?_, ?_⟩
  all_goals
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
    refine turnG_eq z r d _ _ _ (fun hd => ?_) (fun hd => one_row d hd)
    first | rfl | omega | (dsimp only; omega)

end Cert.Kernel2Ideal.InProj

end
-- ==== Proof.InBlocks.lean ====
/- What the in-projection kernel leaves at a grid point, from the blocks it is handed. -/
module

public import proofs.«01_k».proof.Proof.Gen.Kernel2Ideal.Frame
public import proofs.«01_k».proof.Proof.InPay
public import Idealize.ShloMosaic.Lib.WholeRead

@[expose] public section

set_option maxRecDepth 16384

noncomputable section

namespace Cert.Kernel2Ideal.InProj

open Cert.InProj Cert.Kernel2Ideal Cert.Kernel2Ideal.Gen
open Idealize.ShloMosaic Idealize.ShloMosaic.TcCoe

/-! ## Loads and stores of whole buffers -/

/-- A load of a whole buffer reads its contents. -/
theorem load_whole {κ : Kind} {sp : Space} {s : Shape} {e : EltTy} {m : Memref sig κ sp s e} (h : m.IsWhole) (X : s.Idx → Elt Ideal e)
    (off : Fin s.rank → ℕ) (h0 : ∀ a, off a = 0) (inb : ∀ a, off a + s.size a ≤ s.size a) :
    View.readAt (Elt Ideal) m.view (Rect.unit (s := s) off s.size inb).toLoadRect (h.unread X) = X :=
  funext fun y => (h.readAt_unread X _ y).trans (congrArg X (funext fun a => Fin.ext (by
    show off a + 1 * (y a).val = (y a).val
    rw [h0]; omega)))

/-- A store over a whole buffer leaves what it stores. -/
theorem store_whole {κ : Kind} {sp : Space} {s : Shape} {e : EltTy} (v : View sig κ sp s e) (f : v.ty.Contents (Elt Ideal)) (X : s.Idx → Elt Ideal e)
    (off : Fin s.rank → ℕ) (h0 : ∀ a, off a = 0) (inb : ∀ a, off a + s.size a ≤ s.size a) (L : List (View.Piece (Elt Ideal) s e)) :
    v.read (Elt Ideal) (v.writes (Elt Ideal) f (⟨Rect.unit (s := s) off s.size inb, X⟩ :: L)) = X := by
  funext y
  have hy : (Rect.unit (s := s) off s.size inb).emb y = y := funext fun a => Fin.ext (by
    show off a + 1 * (y a).val = (y a).val
    rw [h0]; omega)
  conv_lhs => rw [← hy]
  exact View.read_writes_cons_emb ..

/-- A load of a whole buffer after a store over it reads what was stored. -/
theorem load_stored {κ : Kind} {sp : Space} {s : Shape} {e : EltTy} (v : View sig κ sp s e) (f : v.ty.Contents (Elt Ideal)) (X : s.Idx → Elt Ideal e)
    (off : Fin s.rank → ℕ) (h0 : ∀ a, off a = 0) (inb : ∀ a, off a + s.size a ≤ s.size a) :
    View.readAt (Elt Ideal) v (Rect.unit (s := s) off s.size inb).toLoadRect (v.writes (Elt Ideal) f [⟨Rect.unit (s := s) off s.size inb, X⟩]) = X := by
  funext y
  have hy : (Rect.unit (s := s) off s.size inb).toLoadRect.idx y = y := funext fun a => Fin.ext (by
    show off a + 1 * (y a).val = (y a).val
    rw [h0]; omega)
  show v.read (Elt Ideal) _ ((Rect.unit (s := s) off s.size inb).toLoadRect.idx y) = X y
  rw [hy, store_whole v f X off h0 inb]

/-- `n` columns of the weights. -/
def cols (n off : ℕ) (hn : off + n ≤ 3712) (w : Vec Ideal S1024x3712 .bf16) : (Rect.unit (s := S1024x3712) ![0, off] ![1024, n] (by intro a; match a with | ⟨0, _⟩ => exact Nat.le_refl 1024 | ⟨1, _⟩ => exact hn)).shape.Idx → Elt Ideal .bf16 :=
  fun y => w ((Rect.unit (s := S1024x3712) ![0, off] ![1024, n] (by intro a; match a with | ⟨0, _⟩ => exact Nat.le_refl 1024 | ⟨1, _⟩ => exact hn)).emb y)

theorem cols_apply (n off : ℕ) (hn : off + n ≤ 3712) (w : Vec Ideal S1024x3712 .bf16) (k : Fin 1024) (q : Fin n) :
    cols n off hn w (ix2 k q) = w (ix2 k ⟨off + q.val, by omega⟩) := by
  refine congrArg w (funext fun a => Fin.ext ?_)
  match a with
  | ⟨0, _⟩ => show 0 + 1 * k.val = k.val; omega
  | ⟨1, _⟩ => show off + 1 * q.val = off + q.val; omega

/-- One row of the convolution's weights. -/
def rowOf (n : Fin 4) (w : Vec Ideal S4x1024 .f32) : Vec Ideal S1x1024 .f32 := fun y => w (ix2 n (y 1))

theorem rowOf_apply (n : Fin 4) (w : Vec Ideal S4x1024 .f32) (q : Fin 1024) : rowOf n w (ix2 0 q) = w (ix2 n q) := rfl

theorem load_x {m : Memref sig .tc .vmem S1x256x1024 .f32} (h : m.IsWhole) (X : Vec Ideal S1x256x1024 .f32) :
    View.readAt (Elt Ideal) m.view (Rect.unit ![0, 0, 0] ![1, 256, 1024] inb_S1x256x1024_S1x256x1024_0_0_0).toLoadRect (h.unread X) = X :=
  load_whole h X _ (by decide) _

theorem load_v {m : Memref sig .tc .vmem S1x1024 .f32} (h : m.IsWhole) (X : Vec Ideal S1x1024 .f32) :
    View.readAt (Elt Ideal) m.view (Rect.unit ![0, 0] ![1, 1024] inb_S1x1024_S1x1024_0_0).toLoadRect (h.unread X) = X :=
  load_whole h X _ (by decide) _

theorem load_m {m : Memref sig .tc .vmem S1x1x1024 .f32} (h : m.IsWhole) (X : Vec Ideal S1x1x1024 .f32) :
    View.readAt (Elt Ideal) m.view (Rect.unit ![0, 0, 0] ![1, 1, 1024] inb_S1x1x1024_S1x1x1024_0_0_0).toLoadRect (h.unread X) = X :=
  load_whole h X _ (by decide) _

theorem load_b {m : Memref sig .tc .vmem S1x128 .f32} (h : m.IsWhole) (X : Vec Ideal S1x128 .f32) :
    View.readAt (Elt Ideal) m.view (Rect.unit ![0, 0] ![1, 128] inb_S1x128_S1x128_0_0).toLoadRect (h.unread X) = X :=
  load_whole h X _ (by decide) _

theorem load_t {m : Memref sig .tc .vmem S1x256x128 .f32} (h : m.IsWhole) (X : Vec Ideal S1x256x128 .f32) :
    View.readAt (Elt Ideal) m.view (Rect.unit ![0, 0, 0] ![1, 256, 128] inb_S1x256x128_S1x256x128_0_0_0).toLoadRect (h.unread X) = X :=
  load_whole h X _ (by decide) _

theorem load_h {m : Memref sig .tc .vmem S8x1024 .f32} (h : m.IsWhole) (X : Vec Ideal S8x1024 .f32) :
    View.readAt (Elt Ideal) m.view (Rect.unit ![0, 0] ![8, 1024] inb_S8x1024_S8x1024_0_0).toLoadRect (h.unread X) = X :=
  load_whole h X _ (by decide) _

theorem load_w0 {m : Memref sig .tc .vmem S1024x3712 .bf16} (h : m.IsWhole) (X : Vec Ideal S1024x3712 .bf16) :
    View.readAt (Elt Ideal) m.view (Rect.unit ![0, 0] ![1024, 1024] inb_S1024x3712_S1024x1024_0_0).toLoadRect (h.unread X) = cols 1024 0 (by decide) X :=
  funext fun y => h.readAt_unread X _ y

theorem load_w1024 {m : Memref sig .tc .vmem S1024x3712 .bf16} (h : m.IsWhole) (X : Vec Ideal S1024x3712 .bf16) :
    View.readAt (Elt Ideal) m.view (Rect.unit ![0, 1024] ![1024, 512] inb_S1024x3712_S1024x512_0_1024).toLoadRect (h.unread X) = cols 512 1024 (by decide) X :=
  funext fun y => h.readAt_unread X _ y

theorem load_w1536 {m : Memref sig .tc .vmem S1024x3712 .bf16} (h : m.IsWhole) (X : Vec Ideal S1024x3712 .bf16) :
    View.readAt (Elt Ideal) m.view (Rect.unit ![0, 1536] ![1024, 512] inb_S1024x3712_S1024x512_0_1536).toLoadRect (h.unread X) = cols 512 1536 (by decide) X :=
  funext fun y => h.readAt_unread X _ y

theorem load_w2048 {m : Memref sig .tc .vmem S1024x3712 .bf16} (h : m.IsWhole) (X : Vec Ideal S1024x3712 .bf16) :
    View.readAt (Elt Ideal) m.view (Rect.unit ![0, 2048] ![1024, 1536] inb_S1024x3712_S1024x1536_0_2048).toLoadRect (h.unread X) = cols 1536 2048 (by decide) X :=
  funext fun y => h.readAt_unread X _ y

theorem load_w3584 {m : Memref sig .tc .vmem S1024x3712 .bf16} (h : m.IsWhole) (X : Vec Ideal S1024x3712 .bf16) :
    View.readAt (Elt Ideal) m.view (Rect.unit ![0, 3584] ![1024, 128] inb_S1024x3712_S1024x128_0_3584).toLoadRect (h.unread X) = cols 128 3584 (by decide) X :=
  funext fun y => h.readAt_unread X _ y

theorem load_c0 {m : Memref sig .tc .vmem S4x1024 .f32} (h : m.IsWhole) (X : Vec Ideal S4x1024 .f32) :
    View.readAt (Elt Ideal) m.view (Rect.unit ![0, 0] ![1, 1024] inb_S4x1024_S1x1024_0_0).toLoadRect (h.unread X) = rowOf 0 X := by
  funext y
  refine (h.readAt_unread X _ y).trans (congrArg X (funext fun a => Fin.ext ?_))
  match a with
  | ⟨0, _⟩ => show 0 + 1 * (y (0 : Fin 2)).val = 0; have : (y (0 : Fin 2)).val < 1 := (y (0 : Fin 2)).isLt; omega
  | ⟨1, _⟩ => show 0 + 1 * (y (1 : Fin 2)).val = (y (1 : Fin 2)).val; omega

theorem load_c1 {m : Memref sig .tc .vmem S4x1024 .f32} (h : m.IsWhole) (X : Vec Ideal S4x1024 .f32) :
    View.readAt (Elt Ideal) m.view (Rect.unit ![1, 0] ![1, 1024] inb_S4x1024_S1x1024_1_0).toLoadRect (h.unread X) = rowOf 1 X := by
  funext y
  refine (h.readAt_unread X _ y).trans (congrArg X (funext fun a => Fin.ext ?_))
  match a with
  | ⟨0, _⟩ => show 1 + 1 * (y (0 : Fin 2)).val = 1; have : (y (0 : Fin 2)).val < 1 := (y (0 : Fin 2)).isLt; omega
  | ⟨1, _⟩ => show 0 + 1 * (y (1 : Fin 2)).val = (y (1 : Fin 2)).val; omega

theorem load_c2 {m : Memref sig .tc .vmem S4x1024 .f32} (h : m.IsWhole) (X : Vec Ideal S4x1024 .f32) :
    View.readAt (Elt Ideal) m.view (Rect.unit ![2, 0] ![1, 1024] inb_S4x1024_S1x1024_2_0).toLoadRect (h.unread X) = rowOf 2 X := by
  funext y
  refine (h.readAt_unread X _ y).trans (congrArg X (funext fun a => Fin.ext ?_))
  match a with
  | ⟨0, _⟩ => show 2 + 1 * (y (0 : Fin 2)).val = 2; have : (y (0 : Fin 2)).val < 1 := (y (0 : Fin 2)).isLt; omega
  | ⟨1, _⟩ => show 0 + 1 * (y (1 : Fin 2)).val = (y (1 : Fin 2)).val; omega

theorem load_c3 {m : Memref sig .tc .vmem S4x1024 .f32} (h : m.IsWhole) (X : Vec Ideal S4x1024 .f32) :
    View.readAt (Elt Ideal) m.view (Rect.unit ![3, 0] ![1, 1024] inb_S4x1024_S1x1024_3_0).toLoadRect (h.unread X) = rowOf 3 X := by
  funext y
  refine (h.readAt_unread X _ y).trans (congrArg X (funext fun a => Fin.ext ?_))
  match a with
  | ⟨0, _⟩ => show 3 + 1 * (y (0 : Fin 2)).val = 3; have : (y (0 : Fin 2)).val < 1 := (y (0 : Fin 2)).isLt; omega
  | ⟨1, _⟩ => show 0 + 1 * (y (1 : Fin 2)).val = (y (1 : Fin 2)).val; omega

/-- The rows before the first block are the zeros it stores. -/
theorem load_zero (m : Memref sig .tc .vmem S8x1024 .f32) (X : Vec Ideal S8x1024 .f32) :
    View.readCov (Val := Elt Ideal) m.view [⟨Rect.unit ![0, 0] ![8, 1024] inb_S8x1024_S8x1024_0_0, X⟩] (Rect.unit ![0, 0] ![8, 1024] inb_S8x1024_S8x1024_0_0).toLoadRect = X :=
  load_stored m.view _ X ![0, 0] (by decide) inb_S8x1024_S8x1024_0_0

/-! ## The blocks' values -/

variable (x0 : Vec Ideal S1x256x1024 .f32) (x1 : Vec Ideal S1x1024 .f32) (x2 : Vec Ideal S1x1x1024 .f32) (x3 : Vec Ideal S1x1x1024 .f32) (x4 : Vec Ideal S1024x3712 .bf16) (x5 : Vec Ideal S4x1024 .f32) (x6 : Vec Ideal S1x1024 .f32) (x7 : Vec Ideal S1x128 .f32) (x8 : Vec Ideal S1x256x128 .f32) (x9 : Vec Ideal S1x256x128 .f32) (s : Vec Ideal S8x1024 .f32)

/-- The block's normed and modulated rows. -/
abbrev bH : FVec Ideal S256x1024 .bf16 := k0_pay2 x0 x1 x2 x3

/-- The columns the convolution reads. -/
abbrev bC : FVec Ideal S256x1024 .f32 := k0_pay4 x0 x1 x2 x3 (cols 1024 0 (by decide) x4)

/-- The columns of the rotary queries and keys and of their values. -/
abbrev bA : FVec Ideal S256x1536 .f32 := k0_pay13 (bH x0 x1 x2 x3) (cols 1536 2048 (by decide) x4)

/-- The convolved queries and keys, from the rows before the block. -/
def bQK : FVec Ideal S1x256x1024 .bf16 :=
  k0_pay9 (k0_pay5 (bC x0 x1 x2 x3 x4) s (iota .tc S8x1024 32 [0] iota_S8x1024_d0_w32) (rowOf 3 x5) x6 (rowOf 2 x5) (rowOf 1 x5))
    (k0_pay6 (bC x0 x1 x2 x3 x4) s (iota .tc S8x1024 32 [0] iota_S8x1024_d0_w32)) (k0_pay7 (rowOf 0 x5))

/-- The values. -/
def bV : FVec Ideal S1x256x512 .bf16 := k0_pay10 (bH x0 x1 x2 x3) (cols 512 1024 (by decide) x4)

/-- The output gates. -/
def bO : FVec Ideal S1x256x512 .bf16 := k0_pay12 (k0_pay11 (bH x0 x1 x2 x3) (cols 512 1536 (by decide) x4))

/-- The rotary queries and keys. -/
def bR : FVec Ideal S1x256x1024 .bf16 := fun y => ropeG (bA x0 x1 x2 x3 x4) (k0_pay14 x8) (k0_pay15 x9) (y 1) (y 2)

/-- The turned values. -/
def bT : FVec Ideal S1x8x1x80x256 .bf16 := fun y => turnG (bA x0 x1 x2 x3 x4) (y 1) (y 3) (y 4)

/-- The gates. -/
def bG : FVec Ideal S1x256x128 .f32 :=
  k0_pay1 (k0_pay54 (bH x0 x1 x2 x3) (iota .tc S256x128 32 [1] iota_S256x128_d1_w32) (cols 128 3584 (by decide) x4) x7)

/-- The means of the keys. -/
def bM : FVec Ideal S1x1x1x512 .f32 := fun y => meanG (bA x0 x1 x2 x3 x4) (k0_pay14 x8) (k0_pay15 x9) (y 3)

/-- The rows left for the next block. -/
def bS : FVec Ideal S8x1024 .f32 := k0_pay8 (bC x0 x1 x2 x3 x4)

/-! ## The stores -/

/-- A store of 128 columns agrees with a function of the whole block when its columns do. -/
theorem piece_cols (G : S1x256x1024.Idx → EReal) (off : ℕ) (hoff : off + 128 ≤ 1024) (inb : ∀ a, (![0, 0, off] : Fin 3 → ℕ) a + (![1, 256, 128] : Fin 3 → ℕ) a ≤ S1x256x1024.size a)
    (P : Vec Ideal S1x256x128 .bf16) (h : ∀ (r : Fin 256) (l : Fin 128), P (ix3 0 r l) = G (ix3 0 r ⟨off + l.val, by omega⟩))
    (x : (Rect.unit (s := S1x256x1024) ![0, 0, off] ![1, 256, 128] inb).shape.Idx) : P x = G ((Rect.unit (s := S1x256x1024) ![0, 0, off] ![1, 256, 128] inb).emb x) := by
  have h0 : (x (0 : Fin 3)).val < 1 := (x (0 : Fin 3)).isLt
  have hx : x = ix3 (n0 := 1) (n1 := 256) (n2 := 128) 0 (x (1 : Fin 3)) (x (2 : Fin 3)) := by
    funext a
    match a with
    | ⟨0, _⟩ => exact Fin.ext (by show (x (0 : Fin 3)).val = 0; omega)
    | ⟨1, _⟩ => rfl
    | ⟨2, _⟩ => rfl
  refine (congrArg P hx).trans ((h _ _).trans (congrArg G (funext fun a => Fin.ext ?_)))
  match a with
  | ⟨0, _⟩ => show 0 = 0 + 1 * (x (0 : Fin 3)).val; omega
  | ⟨1, _⟩ => show (x (1 : Fin 3)).val = 0 + 1 * (x (1 : Fin 3)).val; omega
  | ⟨2, _⟩ => show off + (x (2 : Fin 3)).val = off + 1 * (x (2 : Fin 3)).val; omega

/-- A store of one head's turned values agrees with a function of the whole block when its entries do. -/
theorem piece_head (G : S1x8x1x80x256.Idx → EReal) (n : Fin 8) (inb : ∀ a, (![0, n.val, 0, 0, 0] : Fin 5 → ℕ) a + (![1, 1, 1, 80, 256] : Fin 5 → ℕ) a ≤ S1x8x1x80x256.size a)
    (P : Vec Ideal S1x1x1x80x256 .bf16) (h : ∀ (d : Fin 80) (r : Fin 256), P (ix5 0 0 0 d r) = G (ix5 0 n 0 d r))
    (x : (Rect.unit (s := S1x8x1x80x256) ![0, n.val, 0, 0, 0] ![1, 1, 1, 80, 256] inb).shape.Idx) : P x = G ((Rect.unit (s := S1x8x1x80x256) ![0, n.val, 0, 0, 0] ![1, 1, 1, 80, 256] inb).emb x) := by
  have h0 : (x (0 : Fin 5)).val < 1 := (x (0 : Fin 5)).isLt
  have h1 : (x (1 : Fin 5)).val < 1 := (x (1 : Fin 5)).isLt
  have h2 : (x (2 : Fin 5)).val < 1 := (x (2 : Fin 5)).isLt
  have hx : x = ix5 (n0 := 1) (n1 := 1) (n2 := 1) (n3 := 80) (n4 := 256) 0 0 0 (x (3 : Fin 5)) (x (4 : Fin 5)) := by
    funext a
    match a with
    | ⟨0, _⟩ => exact Fin.ext (by show (x (0 : Fin 5)).val = 0; omega)
    | ⟨1, _⟩ => exact Fin.ext (by show (x (1 : Fin 5)).val = 0; omega)
    | ⟨2, _⟩ => exact Fin.ext (by show (x (2 : Fin 5)).val = 0; omega)
    | ⟨3, _⟩ => rfl
    | ⟨4, _⟩ => rfl
  refine (congrArg P hx).trans ((h _ _).trans (congrArg G (funext fun a => Fin.ext ?_)))
  match a with
  | ⟨0, _⟩ => show 0 = 0 + 1 * (x (0 : Fin 5)).val; omega
  | ⟨1, _⟩ => show n.val = n.val + 1 * (x (1 : Fin 5)).val; omega
  | ⟨2, _⟩ => show 0 = 0 + 1 * (x (2 : Fin 5)).val; omega
  | ⟨3, _⟩ => show (x (3 : Fin 5)).val = 0 + 1 * (x (3 : Fin 5)).val; omega
  | ⟨4, _⟩ => show (x (4 : Fin 5)).val = 0 + 1 * (x (4 : Fin 5)).val; omega

/-- A store of 128 of the means agrees with a function of them all when its entries do. -/
theorem piece_mean (G : S1x1x1x512.Idx → EReal) (off : ℕ) (hoff : off + 128 ≤ 512) (inb : ∀ a, (![0, 0, 0, off] : Fin 4 → ℕ) a + (![1, 1, 1, 128] : Fin 4 → ℕ) a ≤ S1x1x1x512.size a)
    (P : Vec Ideal S1x1x1x128 .f32) (h : ∀ l : Fin 128, P (ix4 0 0 0 l) = G (ix4 0 0 0 ⟨off + l.val, by omega⟩))
    (x : (Rect.unit (s := S1x1x1x512) ![0, 0, 0, off] ![1, 1, 1, 128] inb).shape.Idx) : P x = G ((Rect.unit (s := S1x1x1x512) ![0, 0, 0, off] ![1, 1, 1, 128] inb).emb x) := by
  have h0 : (x (0 : Fin 4)).val < 1 := (x (0 : Fin 4)).isLt
  have h1 : (x (1 : Fin 4)).val < 1 := (x (1 : Fin 4)).isLt
  have h2 : (x (2 : Fin 4)).val < 1 := (x (2 : Fin 4)).isLt
  have hx : x = ix4 (n0 := 1) (n1 := 1) (n2 := 1) (n3 := 128) 0 0 0 (x (3 : Fin 4)) := by
    funext a
    match a with
    | ⟨0, _⟩ => exact Fin.ext (by show (x (0 : Fin 4)).val = 0; omega)
    | ⟨1, _⟩ => exact Fin.ext (by show (x (1 : Fin 4)).val = 0; omega)
    | ⟨2, _⟩ => exact Fin.ext (by show (x (2 : Fin 4)).val = 0; omega)
    | ⟨3, _⟩ => rfl
  refine (congrArg P hx).trans ((h _).trans (congrArg G (funext fun a => Fin.ext ?_)))
  match a with
  | ⟨0, _⟩ => show 0 = 0 + 1 * (x (0 : Fin 4)).val; omega
  | ⟨1, _⟩ => show 0 = 0 + 1 * (x (1 : Fin 4)).val; omega
  | ⟨2, _⟩ => show 0 = 0 + 1 * (x (2 : Fin 4)).val; omega
  | ⟨3, _⟩ => show off + (x (3 : Fin 4)).val = off + 1 * (x (3 : Fin 4)).val; omega

theorem pieces13 : ∀ p ∈ ([⟨Rect.unit ![0, 0, 896] ![1, 256, 128] inb_S1x256x1024_S1x256x128_0_0_896, k0_pay33 (k0_pay13 (k0_pay2 x0 x1 x2 x3) (cols 1536 2048 (by decide) x4)) (k0_pay14 x8) (k0_pay15 x9) k0_pay16⟩,
      ⟨Rect.unit ![0, 0, 768] ![1, 256, 128] inb_S1x256x1024_S1x256x128_0_0_768, k0_pay30 (k0_pay13 (k0_pay2 x0 x1 x2 x3) (cols 1536 2048 (by decide) x4)) (k0_pay14 x8) (k0_pay15 x9) k0_pay16⟩,
      ⟨Rect.unit ![0, 0, 640] ![1, 256, 128] inb_S1x256x1024_S1x256x128_0_0_640, k0_pay27 (k0_pay13 (k0_pay2 x0 x1 x2 x3) (cols 1536 2048 (by decide) x4)) (k0_pay14 x8) (k0_pay15 x9) k0_pay16⟩,
      ⟨Rect.unit ![0, 0, 512] ![1, 256, 128] inb_S1x256x1024_S1x256x128_0_0_512, k0_pay24 (k0_pay14 x8) (k0_pay15 x9) k0_pay16 (k0_pay22 (k0_pay13 (k0_pay2 x0 x1 x2 x3) (cols 1536 2048 (by decide) x4))) 120#32⟩,
      ⟨Rect.unit ![0, 0, 384] ![1, 256, 128] inb_S1x256x1024_S1x256x128_0_0_384, k0_pay21 (k0_pay13 (k0_pay2 x0 x1 x2 x3) (cols 1536 2048 (by decide) x4)) (k0_pay14 x8) (k0_pay15 x9) k0_pay16⟩,
      ⟨Rect.unit ![0, 0, 256] ![1, 256, 128] inb_S1x256x1024_S1x256x128_0_0_256, k0_pay20 (k0_pay13 (k0_pay2 x0 x1 x2 x3) (cols 1536 2048 (by decide) x4)) (k0_pay14 x8) (k0_pay15 x9) k0_pay16⟩,
      ⟨Rect.unit ![0, 0, 128] ![1, 256, 128] inb_S1x256x1024_S1x256x128_0_0_128, k0_pay19 (k0_pay13 (k0_pay2 x0 x1 x2 x3) (cols 1536 2048 (by decide) x4)) (k0_pay14 x8) (k0_pay15 x9) k0_pay16⟩,
      ⟨Rect.unit ![0, 0, 0] ![1, 256, 128] inb_S1x256x1024_S1x256x128_0_0_0, k0_pay18 (k0_pay17 (k0_pay2 x0 x1 x2 x3) (cols 1536 2048 (by decide) x4) x8 x9)⟩] : List (View.Piece (Elt Ideal) S1x256x1024 .bf16)),
    ∀ x, p.2 x = bR x0 x1 x2 x3 x4 x8 x9 (p.1.emb x) := by
  have c := fun r l => key_chunks (k0_pay13 (k0_pay2 x0 x1 x2 x3) (cols 1536 2048 (by decide) x4)) (k0_pay14 x8) (k0_pay15 x9) r l
  have d := fun r l => rope_chunks (k0_pay13 (k0_pay2 x0 x1 x2 x3) (cols 1536 2048 (by decide) x4)) (k0_pay14 x8) (k0_pay15 x9) r l (cols 1536 2048 (by decide) x4) (k0_pay2 x0 x1 x2 x3) x8 x9
  intro p hp x
  simp only [List.mem_cons, List.not_mem_nil, or_false] at hp
  rcases hp with rfl | rfl | rfl | rfl | rfl | rfl | rfl | rfl
  · exact piece_cols (bR x0 x1 x2 x3 x4 x8 x9) 896 (by decide) inb_S1x256x1024_S1x256x128_0_0_896 _ (fun r l => (c r l).2.2.2) x
  · exact piece_cols (bR x0 x1 x2 x3 x4 x8 x9) 768 (by decide) inb_S1x256x1024_S1x256x128_0_0_768 _ (fun r l => (c r l).2.2.1) x
  · exact piece_cols (bR x0 x1 x2 x3 x4 x8 x9) 640 (by decide) inb_S1x256x1024_S1x256x128_0_0_640 _ (fun r l => (c r l).2.1) x
  · exact piece_cols (bR x0 x1 x2 x3 x4 x8 x9) 512 (by decide) inb_S1x256x1024_S1x256x128_0_0_512 _ (fun r l => (c r l).1) x
  · exact piece_cols (bR x0 x1 x2 x3 x4 x8 x9) 384 (by decide) inb_S1x256x1024_S1x256x128_0_0_384 _ (fun r l => (d r l).2.2.2.1) x
  · exact piece_cols (bR x0 x1 x2 x3 x4 x8 x9) 256 (by decide) inb_S1x256x1024_S1x256x128_0_0_256 _ (fun r l => (d r l).2.2.1) x
  · exact piece_cols (bR x0 x1 x2 x3 x4 x8 x9) 128 (by decide) inb_S1x256x1024_S1x256x128_0_0_128 _ (fun r l => (d r l).2.1) x
  · refine piece_cols (bR x0 x1 x2 x3 x4 x8 x9) 0 (by decide) inb_S1x256x1024_S1x256x128_0_0_0 _ (fun r l => ((d r l).1).trans ?_) x
    exact congrArg (ropeG (k0_pay13 (k0_pay2 x0 x1 x2 x3) (cols 1536 2048 (by decide) x4)) (k0_pay14 x8) (k0_pay15 x9) r) (Fin.ext (Nat.zero_add _).symm)

theorem pieces14 : ∀ p ∈ ([⟨Rect.unit ![0, 7, 0, 0, 0] ![1, 1, 1, 80, 256] inb_S1x8x1x80x256_S1x1x1x80x256_0_7_0_0_0, k0_pay53 (k0_pay52 (k0_pay13 (k0_pay2 x0 x1 x2 x3) (cols 1536 2048 (by decide) x4)))⟩,
      ⟨Rect.unit ![0, 6, 0, 0, 0] ![1, 1, 1, 80, 256] inb_S1x8x1x80x256_S1x1x1x80x256_0_6_0_0_0, k0_pay51 (k0_pay13 (k0_pay2 x0 x1 x2 x3) (cols 1536 2048 (by decide) x4))⟩,
      ⟨Rect.unit ![0, 5, 0, 0, 0] ![1, 1, 1, 80, 256] inb_S1x8x1x80x256_S1x1x1x80x256_0_5_0_0_0, k0_pay48 (k0_pay13 (k0_pay2 x0 x1 x2 x3) (cols 1536 2048 (by decide) x4))⟩,
      ⟨Rect.unit ![0, 4, 0, 0, 0] ![1, 1, 1, 80, 256] inb_S1x8x1x80x256_S1x1x1x80x256_0_4_0_0_0, k0_pay47 (k0_pay13 (k0_pay2 x0 x1 x2 x3) (cols 1536 2048 (by decide) x4))⟩,
      ⟨Rect.unit ![0, 3, 0, 0, 0] ![1, 1, 1, 80, 256] inb_S1x8x1x80x256_S1x1x1x80x256_0_3_0_0_0, k0_pay44 (k0_pay43 (k0_pay13 (k0_pay2 x0 x1 x2 x3) (cols 1536 2048 (by decide) x4)))⟩,
      ⟨Rect.unit ![0, 2, 0, 0, 0] ![1, 1, 1, 80, 256] inb_S1x8x1x80x256_S1x1x1x80x256_0_2_0_0_0, k0_pay42 (k0_pay13 (k0_pay2 x0 x1 x2 x3) (cols 1536 2048 (by decide) x4))⟩,
      ⟨Rect.unit ![0, 1, 0, 0, 0] ![1, 1, 1, 80, 256] inb_S1x8x1x80x256_S1x1x1x80x256_0_1_0_0_0, k0_pay39 (k0_pay13 (k0_pay2 x0 x1 x2 x3) (cols 1536 2048 (by decide) x4))⟩,
      ⟨Rect.unit ![0, 0, 0, 0, 0] ![1, 1, 1, 80, 256] inb_S1x8x1x80x256_S1x1x1x80x256_0_0_0_0_0, k0_pay38 (k0_pay13 (k0_pay2 x0 x1 x2 x3) (cols 1536 2048 (by decide) x4))⟩] : List (View.Piece (Elt Ideal) S1x8x1x80x256 .bf16)),
    ∀ x, p.2 x = bT x0 x1 x2 x3 x4 (p.1.emb x) := by
  have c := fun d r => turn_chunks (k0_pay13 (k0_pay2 x0 x1 x2 x3) (cols 1536 2048 (by decide) x4)) r d
  intro p hp x
  simp only [List.mem_cons, List.not_mem_nil, or_false] at hp
  rcases hp with rfl | rfl | rfl | rfl | rfl | rfl | rfl | rfl
  · exact piece_head (bT x0 x1 x2 x3 x4) ⟨7, by decide⟩ inb_S1x8x1x80x256_S1x1x1x80x256_0_7_0_0_0 _ (fun d r => (c d r).2.2.2.2.2.2.2) x
  · exact piece_head (bT x0 x1 x2 x3 x4) ⟨6, by decide⟩ inb_S1x8x1x80x256_S1x1x1x80x256_0_6_0_0_0 _ (fun d r => (c d r).2.2.2.2.2.2.1) x
  · exact piece_head (bT x0 x1 x2 x3 x4) ⟨5, by decide⟩ inb_S1x8x1x80x256_S1x1x1x80x256_0_5_0_0_0 _ (fun d r => (c d r).2.2.2.2.2.1) x
  · exact piece_head (bT x0 x1 x2 x3 x4) ⟨4, by decide⟩ inb_S1x8x1x80x256_S1x1x1x80x256_0_4_0_0_0 _ (fun d r => (c d r).2.2.2.2.1) x
  · exact piece_head (bT x0 x1 x2 x3 x4) ⟨3, by decide⟩ inb_S1x8x1x80x256_S1x1x1x80x256_0_3_0_0_0 _ (fun d r => (c d r).2.2.2.1) x
  · exact piece_head (bT x0 x1 x2 x3 x4) ⟨2, by decide⟩ inb_S1x8x1x80x256_S1x1x1x80x256_0_2_0_0_0 _ (fun d r => (c d r).2.2.1) x
  · exact piece_head (bT x0 x1 x2 x3 x4) ⟨1, by decide⟩ inb_S1x8x1x80x256_S1x1x1x80x256_0_1_0_0_0 _ (fun d r => (c d r).2.1) x
  · exact piece_head (bT x0 x1 x2 x3 x4) ⟨0, by decide⟩ inb_S1x8x1x80x256_S1x1x1x80x256_0_0_0_0_0 _ (fun d r => (c d r).1) x

theorem pieces16 : ∀ p ∈ ([⟨Rect.unit ![0, 0, 0, 384] ![1, 1, 1, 128] inb_S1x1x1x512_S1x1x1x128_0_0_0_384, k0_pay35 (k0_pay34 (k0_pay13 (k0_pay2 x0 x1 x2 x3) (cols 1536 2048 (by decide) x4)) (k0_pay14 x8) (k0_pay15 x9) k0_pay16)⟩,
      ⟨Rect.unit ![0, 0, 0, 256] ![1, 1, 1, 128] inb_S1x1x1x512_S1x1x1x128_0_0_0_256, k0_pay31 (k0_pay13 (k0_pay2 x0 x1 x2 x3) (cols 1536 2048 (by decide) x4)) (k0_pay14 x8) (k0_pay15 x9) k0_pay16⟩,
      ⟨Rect.unit ![0, 0, 0, 128] ![1, 1, 1, 128] inb_S1x1x1x512_S1x1x1x128_0_0_0_128, k0_pay28 (k0_pay13 (k0_pay2 x0 x1 x2 x3) (cols 1536 2048 (by decide) x4)) (k0_pay14 x8) (k0_pay15 x9) k0_pay16⟩,
      ⟨Rect.unit ![0, 0, 0, 0] ![1, 1, 1, 128] inb_S1x1x1x512_S1x1x1x128_0_0_0_0, k0_pay25 (k0_pay14 x8) (k0_pay15 x9) k0_pay16 (k0_pay22 (k0_pay13 (k0_pay2 x0 x1 x2 x3) (cols 1536 2048 (by decide) x4))) 120#32⟩] : List (View.Piece (Elt Ideal) S1x1x1x512 .f32)),
    ∀ x, p.2 x = bM x0 x1 x2 x3 x4 x8 x9 (p.1.emb x) := by
  have c := fun l => mean_chunks (k0_pay13 (k0_pay2 x0 x1 x2 x3) (cols 1536 2048 (by decide) x4)) (k0_pay14 x8) (k0_pay15 x9) l
  intro p hp x
  simp only [List.mem_cons, List.not_mem_nil, or_false] at hp
  rcases hp with rfl | rfl | rfl | rfl
  · exact piece_mean (bM x0 x1 x2 x3 x4 x8 x9) 384 (by decide) inb_S1x1x1x512_S1x1x1x128_0_0_0_384 _ (fun l => (c l).2.2.2) x
  · exact piece_mean (bM x0 x1 x2 x3 x4 x8 x9) 256 (by decide) inb_S1x1x1x512_S1x1x1x128_0_0_0_256 _ (fun l => (c l).2.2.1) x
  · exact piece_mean (bM x0 x1 x2 x3 x4 x8 x9) 128 (by decide) inb_S1x1x1x512_S1x1x1x128_0_0_0_128 _ (fun l => (c l).2.1) x
  · refine piece_mean (bM x0 x1 x2 x3 x4 x8 x9) 0 (by decide) inb_S1x1x1x512_S1x1x1x128_0_0_0_0 _ (fun l => (c l).1.trans ?_) x
    exact congrArg (meanG (k0_pay13 (k0_pay2 x0 x1 x2 x3) (cols 1536 2048 (by decide) x4)) (k0_pay14 x8) (k0_pay15 x9)) (Fin.ext (Nat.zero_add _).symm)

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3712 .bf16) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x1024 .bf16) (harg12 : arg12.IsWhole) (arg13 : Memref sig .tc .vmem S1x256x512 .bf16) (harg13 : arg13.IsWhole) (arg14 : Memref sig .tc .vmem S1x256x512 .bf16) (harg14 : arg14.IsWhole) (arg15 : Memref sig .tc .vmem S1x256x1024 .bf16) (harg15 : arg15.IsWhole) (arg16 : Memref sig .tc .vmem S1x8x1x80x256 .bf16) (harg16 : arg16.IsWhole) (arg17 : Memref sig .tc .vmem S1x256x128 .f32) (harg17 : arg17.IsWhole) (arg18 : Memref sig .tc .vmem S1x1x1x512 .f32) (harg18 : arg18.IsWhole) (arg19 : Memref sig .tc .vmem S8x1024 .f32) (harg19 : arg19.IsWhole)

theorem normed_A : kernelRun0_A.sl.v26 (F := Ideal) c arg2 harg2 arg3 harg3 arg4 harg4 arg5 harg5 x0 x1 x2 x3 = k0_pay2 x0 x1 x2 x3 := by
  simp only [kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.v1, kernelRun0_A.sl.v10, kernelRun0_A.sl.v11, kernelRun0_A.sl.v13, kernelRun0_A.sl.v14, kernelRun0_A.sl.v15, kernelRun0_A.sl.v17, kernelRun0_A.sl.v18, kernelRun0_A.sl.v19, kernelRun0_A.sl.v2, kernelRun0_A.sl.v20, kernelRun0_A.sl.v21, kernelRun0_A.sl.v23, kernelRun0_A.sl.v24, kernelRun0_A.sl.v25, kernelRun0_A.sl.v26, kernelRun0_A.sl.v3, kernelRun0_A.sl.v4, kernelRun0_A.sl.v5, kernelRun0_A.sl.v6, kernelRun0_A.sl.v7, kernelRun0_A.sl.v8, kernelRun0_A.sl.v9, load_x, load_v, load_m, load_b, load_t, load_h, load_w0, load_w1024, load_w1536, load_w2048, load_w3584, load_c0, load_c1, load_c2, load_c3, load_zero]
  rfl

theorem pre_A : kernelRun0_A.sl.v32 (F := Ideal) c arg2 harg2 arg3 harg3 arg4 harg4 arg5 harg5 arg6 harg6 x0 x1 x2 x3 x4 = bC x0 x1 x2 x3 x4 := by
  simp only [kernelRun0_A.sl.cst_16, kernelRun0_A.sl.v31, kernelRun0_A.sl.v32, load_x, load_v, load_m, load_b, load_t, load_h, load_w0, load_w1024, load_w1536, load_w2048, load_w3584, load_c0, load_c1, load_c2, load_c3, load_zero, normed_A]
  rfl

theorem all_A : kernelRun0_A.sl.v118 (F := Ideal) c arg2 harg2 arg3 harg3 arg4 harg4 arg5 harg5 arg6 harg6 x0 x1 x2 x3 x4 = bA x0 x1 x2 x3 x4 := by
  simp only [kernelRun0_A.sl.cst_53, kernelRun0_A.sl.v117, kernelRun0_A.sl.v118, load_x, load_v, load_m, load_b, load_t, load_h, load_w0, load_w1024, load_w1536, load_w2048, load_w3584, load_c0, load_c1, load_c2, load_c3, load_zero, normed_A]
  rfl

theorem state_A : kernelRun0_A.sl.v33 (F := Ideal) c arg19 = (k0_pay3 (F := Ideal)) := by
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  rfl

theorem conv_A : kernelRun0_A.sl.v65 (F := Ideal) c arg2 harg2 arg3 harg3 arg4 harg4 arg5 harg5 arg6 harg6 arg7 harg7 arg8 harg8 arg19 x0 x1 x2 x3 x4 x5 x6 = k0_pay5 (bC x0 x1 x2 x3 x4) (k0_pay3 (F := Ideal)) (iota .tc S8x1024 32 [0] iota_S8x1024_d0_w32) (rowOf 3 x5) x6 (rowOf 2 x5) (rowOf 1 x5) := by
  have h : kernelRun0_A.sl.v65 (F := Ideal) c arg2 harg2 arg3 harg3 arg4 harg4 arg5 harg5 arg6 harg6 arg7 harg7 arg8 harg8 arg19 x0 x1 x2 x3 x4 x5 x6 = k0_pay5 (kernelRun0_A.sl.v32 (F := Ideal) c arg2 harg2 arg3 harg3 arg4 harg4 arg5 harg5 arg6 harg6 x0 x1 x2 x3 x4) (kernelRun0_A.sl.v33 (F := Ideal) c arg19) kernelRun0_A.sl.v34 (View.readAt (Elt Ideal) arg7.view (Rect.unit (s := S4x1024) ![3, 0] S1x1024.size inb_S4x1024_S1x1024_3_0).toLoadRect (harg7.unread x5)) (View.readAt (Elt Ideal) arg8.view (Rect.unit (s := S1x1024) ![0, 0] S1x1024.size inb_S1x1024_S1x1024_0_0).toLoadRect (harg8.unread x6)) (View.readAt (Elt Ideal) arg7.view (Rect.unit (s := S4x1024) ![2, 0] S1x1024.size inb_S4x1024_S1x1024_2_0).toLoadRect (harg7.unread x5)) (View.readAt (Elt Ideal) arg7.view (Rect.unit (s := S4x1024) ![1, 0] S1x1024.size inb_S4x1024_S1x1024_1_0).toLoadRect (harg7.unread x5)) := rfl
  rw [h, pre_A]
  simp only [state_A, kernelRun0_A.sl.v34, load_b, load_c0, load_c1, load_c2, load_c3, load_h, load_v, load_m, load_t, load_x]

theorem back_A : kernelRun0_A.sl.v73 (F := Ideal) c arg2 harg2 arg3 harg3 arg4 harg4 arg5 harg5 arg6 harg6 arg19 x0 x1 x2 x3 x4 = k0_pay6 (bC x0 x1 x2 x3 x4) (k0_pay3 (F := Ideal)) (iota .tc S8x1024 32 [0] iota_S8x1024_d0_w32) := by
  have h : kernelRun0_A.sl.v73 (F := Ideal) c arg2 harg2 arg3 harg3 arg4 harg4 arg5 harg5 arg6 harg6 arg19 x0 x1 x2 x3 x4 = k0_pay6 (kernelRun0_A.sl.v32 (F := Ideal) c arg2 harg2 arg3 harg3 arg4 harg4 arg5 harg5 arg6 harg6 x0 x1 x2 x3 x4) (kernelRun0_A.sl.v33 (F := Ideal) c arg19) kernelRun0_A.sl.v34 := rfl
  rw [h, pre_A]
  simp only [state_A, kernelRun0_A.sl.v34, load_b, load_c0, load_c1, load_c2, load_c3, load_h, load_v, load_m, load_t, load_x]

theorem normed_B : kernelRun0_B.sl.v26 (F := Ideal) c arg2 harg2 arg3 harg3 arg4 harg4 arg5 harg5 x0 x1 x2 x3 = k0_pay2 x0 x1 x2 x3 := by
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.v1, kernelRun0_B.sl.v10, kernelRun0_B.sl.v11, kernelRun0_B.sl.v13, kernelRun0_B.sl.v14, kernelRun0_B.sl.v15, kernelRun0_B.sl.v17, kernelRun0_B.sl.v18, kernelRun0_B.sl.v19, kernelRun0_B.sl.v2, kernelRun0_B.sl.v20, kernelRun0_B.sl.v21, kernelRun0_B.sl.v23, kernelRun0_B.sl.v24, kernelRun0_B.sl.v25, kernelRun0_B.sl.v26, kernelRun0_B.sl.v3, kernelRun0_B.sl.v4, kernelRun0_B.sl.v5, kernelRun0_B.sl.v6, kernelRun0_B.sl.v7, kernelRun0_B.sl.v8, kernelRun0_B.sl.v9, load_x, load_v, load_m, load_b, load_t, load_h, load_w0, load_w1024, load_w1536, load_w2048, load_w3584, load_c0, load_c1, load_c2, load_c3]
  rfl

theorem pre_B : kernelRun0_B.sl.v32 (F := Ideal) c arg2 harg2 arg3 harg3 arg4 harg4 arg5 harg5 arg6 harg6 x0 x1 x2 x3 x4 = bC x0 x1 x2 x3 x4 := by
  simp only [kernelRun0_B.sl.cst_16, kernelRun0_B.sl.v31, kernelRun0_B.sl.v32, load_x, load_v, load_m, load_b, load_t, load_h, load_w0, load_w1024, load_w1536, load_w2048, load_w3584, load_c0, load_c1, load_c2, load_c3, normed_B]
  rfl

theorem all_B : kernelRun0_B.sl.v118 (F := Ideal) c arg2 harg2 arg3 harg3 arg4 harg4 arg5 harg5 arg6 harg6 x0 x1 x2 x3 x4 = bA x0 x1 x2 x3 x4 := by
  simp only [kernelRun0_B.sl.cst_53, kernelRun0_B.sl.v117, kernelRun0_B.sl.v118, load_x, load_v, load_m, load_b, load_t, load_h, load_w0, load_w1024, load_w1536, load_w2048, load_w3584, load_c0, load_c1, load_c2, load_c3, normed_B]
  rfl

theorem conv_B (xs0 : Vec Ideal S8x1024 .f32) : kernelRun0_B.sl.v65 (F := Ideal) c arg2 harg2 arg3 harg3 arg4 harg4 arg5 harg5 arg6 harg6 arg7 harg7 arg8 harg8 arg19 harg19 x0 x1 x2 x3 x4 x5 x6 xs0 = k0_pay5 (bC x0 x1 x2 x3 x4) xs0 (iota .tc S8x1024 32 [0] iota_S8x1024_d0_w32) (rowOf 3 x5) x6 (rowOf 2 x5) (rowOf 1 x5) := by
  have h : kernelRun0_B.sl.v65 (F := Ideal) c arg2 harg2 arg3 harg3 arg4 harg4 arg5 harg5 arg6 harg6 arg7 harg7 arg8 harg8 arg19 harg19 x0 x1 x2 x3 x4 x5 x6 xs0 = k0_pay5 (kernelRun0_B.sl.v32 (F := Ideal) c arg2 harg2 arg3 harg3 arg4 harg4 arg5 harg5 arg6 harg6 x0 x1 x2 x3 x4) (kernelRun0_B.sl.r (F := Ideal) c arg19 harg19 xs0) kernelRun0_B.sl.v34 (View.readAt (Elt Ideal) arg7.view (Rect.unit (s := S4x1024) ![3, 0] S1x1024.size inb_S4x1024_S1x1024_3_0).toLoadRect (harg7.unread x5)) (View.readAt (Elt Ideal) arg8.view (Rect.unit (s := S1x1024) ![0, 0] S1x1024.size inb_S1x1024_S1x1024_0_0).toLoadRect (harg8.unread x6)) (View.readAt (Elt Ideal) arg7.view (Rect.unit (s := S4x1024) ![2, 0] S1x1024.size inb_S4x1024_S1x1024_2_0).toLoadRect (harg7.unread x5)) (View.readAt (Elt Ideal) arg7.view (Rect.unit (s := S4x1024) ![1, 0] S1x1024.size inb_S4x1024_S1x1024_1_0).toLoadRect (harg7.unread x5)) := rfl
  rw [h, pre_B]
  simp only [kernelRun0_B.sl.r, kernelRun0_B.sl.v34, load_b, load_c0, load_c1, load_c2, load_c3, load_h, load_v, load_m, load_t, load_x]

theorem back_B (xs0 : Vec Ideal S8x1024 .f32) : kernelRun0_B.sl.v73 (F := Ideal) c arg2 harg2 arg3 harg3 arg4 harg4 arg5 harg5 arg6 harg6 arg19 harg19 x0 x1 x2 x3 x4 xs0 = k0_pay6 (bC x0 x1 x2 x3 x4) xs0 (iota .tc S8x1024 32 [0] iota_S8x1024_d0_w32) := by
  have h : kernelRun0_B.sl.v73 (F := Ideal) c arg2 harg2 arg3 harg3 arg4 harg4 arg5 harg5 arg6 harg6 arg19 harg19 x0 x1 x2 x3 x4 xs0 = k0_pay6 (kernelRun0_B.sl.v32 (F := Ideal) c arg2 harg2 arg3 harg3 arg4 harg4 arg5 harg5 arg6 harg6 x0 x1 x2 x3 x4) (kernelRun0_B.sl.r (F := Ideal) c arg19 harg19 xs0) kernelRun0_B.sl.v34 := rfl
  rw [h, pre_B]
  simp only [kernelRun0_B.sl.r, kernelRun0_B.sl.v34, load_b, load_c0, load_c1, load_c2, load_c3, load_h, load_v, load_m, load_t, load_x]

theorem turn270_A : kernelRun0_A.sl.v270 (F := Ideal) c arg2 harg2 arg3 harg3 arg4 harg4 arg5 harg5 arg6 harg6 x0 x1 x2 x3 x4 = k0_pay38 (kernelRun0_A.sl.v118 (F := Ideal) c arg2 harg2 arg3 harg3 arg4 harg4 arg5 harg5 arg6 harg6 x0 x1 x2 x3 x4) := rfl

theorem turn276_A : kernelRun0_A.sl.v276 (F := Ideal) c arg2 harg2 arg3 harg3 arg4 harg4 arg5 harg5 arg6 harg6 x0 x1 x2 x3 x4 = k0_pay39 (kernelRun0_A.sl.v118 (F := Ideal) c arg2 harg2 arg3 harg3 arg4 harg4 arg5 harg5 arg6 harg6 x0 x1 x2 x3 x4) := rfl

theorem turn289_A : kernelRun0_A.sl.v289 (F := Ideal) c arg2 harg2 arg3 harg3 arg4 harg4 arg5 harg5 arg6 harg6 x0 x1 x2 x3 x4 = k0_pay42 (kernelRun0_A.sl.v118 (F := Ideal) c arg2 harg2 arg3 harg3 arg4 harg4 arg5 harg5 arg6 harg6 x0 x1 x2 x3 x4) := rfl

theorem turn295_A : kernelRun0_A.sl.v295 (F := Ideal) c arg2 harg2 arg3 harg3 arg4 harg4 arg5 harg5 arg6 harg6 x0 x1 x2 x3 x4 = k0_pay44 (k0_pay43 (kernelRun0_A.sl.v118 (F := Ideal) c arg2 harg2 arg3 harg3 arg4 harg4 arg5 harg5 arg6 harg6 x0 x1 x2 x3 x4)) := rfl

theorem turn308_A : kernelRun0_A.sl.v308 (F := Ideal) c arg2 harg2 arg3 harg3 arg4 harg4 arg5 harg5 arg6 harg6 x0 x1 x2 x3 x4 = k0_pay47 (kernelRun0_A.sl.v118 (F := Ideal) c arg2 harg2 arg3 harg3 arg4 harg4 arg5 harg5 arg6 harg6 x0 x1 x2 x3 x4) := rfl

theorem turn314_A : kernelRun0_A.sl.v314 (F := Ideal) c arg2 harg2 arg3 harg3 arg4 harg4 arg5 harg5 arg6 harg6 x0 x1 x2 x3 x4 = k0_pay48 (kernelRun0_A.sl.v118 (F := Ideal) c arg2 harg2 arg3 harg3 arg4 harg4 arg5 harg5 arg6 harg6 x0 x1 x2 x3 x4) := rfl

theorem turn327_A : kernelRun0_A.sl.v327 (F := Ideal) c arg2 harg2 arg3 harg3 arg4 harg4 arg5 harg5 arg6 harg6 x0 x1 x2 x3 x4 = k0_pay51 (kernelRun0_A.sl.v118 (F := Ideal) c arg2 harg2 arg3 harg3 arg4 harg4 arg5 harg5 arg6 harg6 x0 x1 x2 x3 x4) := rfl

theorem turn329_A : kernelRun0_A.sl.v329 (F := Ideal) c arg2 harg2 arg3 harg3 arg4 harg4 arg5 harg5 arg6 harg6 x0 x1 x2 x3 x4 = k0_pay52 (kernelRun0_A.sl.v118 (F := Ideal) c arg2 harg2 arg3 harg3 arg4 harg4 arg5 harg5 arg6 harg6 x0 x1 x2 x3 x4) := rfl

theorem turn270_B : kernelRun0_B.sl.v270 (F := Ideal) c arg2 harg2 arg3 harg3 arg4 harg4 arg5 harg5 arg6 harg6 x0 x1 x2 x3 x4 = k0_pay38 (kernelRun0_B.sl.v118 (F := Ideal) c arg2 harg2 arg3 harg3 arg4 harg4 arg5 harg5 arg6 harg6 x0 x1 x2 x3 x4) := rfl

theorem turn276_B : kernelRun0_B.sl.v276 (F := Ideal) c arg2 harg2 arg3 harg3 arg4 harg4 arg5 harg5 arg6 harg6 x0 x1 x2 x3 x4 = k0_pay39 (kernelRun0_B.sl.v118 (F := Ideal) c arg2 harg2 arg3 harg3 arg4 harg4 arg5 harg5 arg6 harg6 x0 x1 x2 x3 x4) := rfl

theorem turn289_B : kernelRun0_B.sl.v289 (F := Ideal) c arg2 harg2 arg3 harg3 arg4 harg4 arg5 harg5 arg6 harg6 x0 x1 x2 x3 x4 = k0_pay42 (kernelRun0_B.sl.v118 (F := Ideal) c arg2 harg2 arg3 harg3 arg4 harg4 arg5 harg5 arg6 harg6 x0 x1 x2 x3 x4) := rfl

theorem turn295_B : kernelRun0_B.sl.v295 (F := Ideal) c arg2 harg2 arg3 harg3 arg4 harg4 arg5 harg5 arg6 harg6 x0 x1 x2 x3 x4 = k0_pay44 (k0_pay43 (kernelRun0_B.sl.v118 (F := Ideal) c arg2 harg2 arg3 harg3 arg4 harg4 arg5 harg5 arg6 harg6 x0 x1 x2 x3 x4)) := rfl

theorem turn308_B : kernelRun0_B.sl.v308 (F := Ideal) c arg2 harg2 arg3 harg3 arg4 harg4 arg5 harg5 arg6 harg6 x0 x1 x2 x3 x4 = k0_pay47 (kernelRun0_B.sl.v118 (F := Ideal) c arg2 harg2 arg3 harg3 arg4 harg4 arg5 harg5 arg6 harg6 x0 x1 x2 x3 x4) := rfl

theorem turn314_B : kernelRun0_B.sl.v314 (F := Ideal) c arg2 harg2 arg3 harg3 arg4 harg4 arg5 harg5 arg6 harg6 x0 x1 x2 x3 x4 = k0_pay48 (kernelRun0_B.sl.v118 (F := Ideal) c arg2 harg2 arg3 harg3 arg4 harg4 arg5 harg5 arg6 harg6 x0 x1 x2 x3 x4) := rfl

theorem turn327_B : kernelRun0_B.sl.v327 (F := Ideal) c arg2 harg2 arg3 harg3 arg4 harg4 arg5 harg5 arg6 harg6 x0 x1 x2 x3 x4 = k0_pay51 (kernelRun0_B.sl.v118 (F := Ideal) c arg2 harg2 arg3 harg3 arg4 harg4 arg5 harg5 arg6 harg6 x0 x1 x2 x3 x4) := rfl

theorem turn329_B : kernelRun0_B.sl.v329 (F := Ideal) c arg2 harg2 arg3 harg3 arg4 harg4 arg5 harg5 arg6 harg6 x0 x1 x2 x3 x4 = k0_pay52 (kernelRun0_B.sl.v118 (F := Ideal) c arg2 harg2 arg3 harg3 arg4 harg4 arg5 harg5 arg6 harg6 x0 x1 x2 x3 x4) := rfl

theorem outB_10 (hc0 : ¬cond0_0 i) (xs0 : Vec Ideal S8x1024 .f32) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bQK x0 x1 x2 x3 x4 x5 x6 xs0 := by
  unfold out0_B_10 bQK
  unfold kernelRun0_B
  dsimp only
  simp only [kernelRun0_B.sl.v75, conv_B, back_B, load_c0, load_b, load_c1]
  exact store_whole (s := S1x256x1024) _ _ _ ![0, 0, 0] (by decide) _ _

theorem outB_11 (hc0 : ¬cond0_0 i) (xs0 : Vec Ideal S8x1024 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bV x0 x1 x2 x3 x4 := by
  unfold out0_B_11 bV
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact store_whole (s := S1x256x512) _ _ _ ![0, 0, 0] (by decide) _ _

theorem outB_12 (hc0 : ¬cond0_0 i) (xs0 : Vec Ideal S8x1024 .f32) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bO x0 x1 x2 x3 x4 := by
  unfold out0_B_12 bO
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact store_whole (s := S1x256x512) _ _ _ ![0, 0, 0] (by decide) _ _

theorem outB_15 (hc0 : ¬cond0_0 i) (xs0 : Vec Ideal S8x1024 .f32) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bG x0 x1 x2 x3 x4 x7 := by
  unfold out0_B_15 bG
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact store_whole (s := S1x256x128) _ _ _ ![0, 0, 0] (by decide) _ _

theorem outB_s (hc0 : ¬cond0_0 i) (xs0 : Vec Ideal S8x1024 .f32) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bS x0 x1 x2 x3 x4 := by
  unfold sout0_B_0 bS
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact store_whole (s := S8x1024) _ _ _ ![0, 0] (by decide) _ _

theorem outB_13 (hc0 : ¬cond0_0 i) (xs0 : Vec Ideal S8x1024 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bR x0 x1 x2 x3 x4 x8 x9 := by
  unfold out0_B_13
  funext y
  refine View.read_writes_apply_of_pieces VO0_13 _ _ _ ?_ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 y)
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact pieces13 x0 x1 x2 x3 x4 x8 x9

theorem outB_14 (hc0 : ¬cond0_0 i) (xs0 : Vec Ideal S8x1024 .f32) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bT x0 x1 x2 x3 x4 := by
  unfold out0_B_14
  funext y
  refine View.read_writes_apply_of_pieces VO0_14 _ _ _ ?_ y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 y)
  unfold kernelRun0_B
  dsimp only
  simp only [turn270_B, turn276_B, turn289_B, turn295_B, turn308_B, turn314_B, turn327_B, turn329_B, all_B]
  exact pieces14 x0 x1 x2 x3 x4

theorem outB_16 (hc0 : ¬cond0_0 i) (xs0 : Vec Ideal S8x1024 .f32) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 = bM x0 x1 x2 x3 x4 x8 x9 := by
  unfold out0_B_16
  funext y
  refine View.read_writes_apply_of_pieces VO0_16 _ _ _ ?_ y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 y)
  unfold kernelRun0_B
  dsimp only
  simp only [kernelRun0_B.sl.cst, kernelRun0_B.sl.cst_16, kernelRun0_B.sl.cst_2, kernelRun0_B.sl.cst_3, kernelRun0_B.sl.cst_53, kernelRun0_B.sl.cst_86, kernelRun0_B.sl.cst_87, kernelRun0_B.sl.cst_9, kernelRun0_B.sl.r, kernelRun0_B.sl.r_1, kernelRun0_B.sl.r_2, kernelRun0_B.sl.v1, kernelRun0_B.sl.v10, kernelRun0_B.sl.v11, kernelRun0_B.sl.v114, kernelRun0_B.sl.v115, kernelRun0_B.sl.v117, kernelRun0_B.sl.v118, kernelRun0_B.sl.v120, kernelRun0_B.sl.v122, kernelRun0_B.sl.v123, kernelRun0_B.sl.v126, kernelRun0_B.sl.v128, kernelRun0_B.sl.v129, kernelRun0_B.sl.v13, kernelRun0_B.sl.v131, kernelRun0_B.sl.v133, kernelRun0_B.sl.v135, kernelRun0_B.sl.v138, kernelRun0_B.sl.v139, kernelRun0_B.sl.v14, kernelRun0_B.sl.v140, kernelRun0_B.sl.v142, kernelRun0_B.sl.v143, kernelRun0_B.sl.v144, kernelRun0_B.sl.v145, kernelRun0_B.sl.v146, kernelRun0_B.sl.v147, kernelRun0_B.sl.v148, kernelRun0_B.sl.v149, kernelRun0_B.sl.v15, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v160, kernelRun0_B.sl.v161, kernelRun0_B.sl.v162, kernelRun0_B.sl.v163, kernelRun0_B.sl.v164, kernelRun0_B.sl.v165, kernelRun0_B.sl.v166, kernelRun0_B.sl.v167, kernelRun0_B.sl.v168, kernelRun0_B.sl.v169, kernelRun0_B.sl.v17, kernelRun0_B.sl.v170, kernelRun0_B.sl.v171, kernelRun0_B.sl.v172, kernelRun0_B.sl.v173, kernelRun0_B.sl.v174, kernelRun0_B.sl.v175, kernelRun0_B.sl.v176, kernelRun0_B.sl.v177, kernelRun0_B.sl.v178, kernelRun0_B.sl.v179, kernelRun0_B.sl.v18, kernelRun0_B.sl.v180, kernelRun0_B.sl.v181, kernelRun0_B.sl.v182, kernelRun0_B.sl.v183, kernelRun0_B.sl.v184, kernelRun0_B.sl.v185, kernelRun0_B.sl.v186, kernelRun0_B.sl.v187, kernelRun0_B.sl.v188, kernelRun0_B.sl.v189, kernelRun0_B.sl.v19, kernelRun0_B.sl.v190, kernelRun0_B.sl.v191, kernelRun0_B.sl.v192, kernelRun0_B.sl.v193, kernelRun0_B.sl.v194, kernelRun0_B.sl.v195, kernelRun0_B.sl.v196, kernelRun0_B.sl.v197, kernelRun0_B.sl.v198, kernelRun0_B.sl.v199, kernelRun0_B.sl.v2, kernelRun0_B.sl.v20, kernelRun0_B.sl.v200, kernelRun0_B.sl.v202, kernelRun0_B.sl.v203, kernelRun0_B.sl.v204, kernelRun0_B.sl.v205, kernelRun0_B.sl.v206, kernelRun0_B.sl.v207, kernelRun0_B.sl.v208, kernelRun0_B.sl.v209, kernelRun0_B.sl.v21, kernelRun0_B.sl.v210, kernelRun0_B.sl.v211, kernelRun0_B.sl.v212, kernelRun0_B.sl.v213, kernelRun0_B.sl.v214, kernelRun0_B.sl.v215, kernelRun0_B.sl.v216, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v23, kernelRun0_B.sl.v230, kernelRun0_B.sl.v231, kernelRun0_B.sl.v232, kernelRun0_B.sl.v233, kernelRun0_B.sl.v234, kernelRun0_B.sl.v236, kernelRun0_B.sl.v237, kernelRun0_B.sl.v238, kernelRun0_B.sl.v239, kernelRun0_B.sl.v24, kernelRun0_B.sl.v240, kernelRun0_B.sl.v241, kernelRun0_B.sl.v242, kernelRun0_B.sl.v243, kernelRun0_B.sl.v244, kernelRun0_B.sl.v245, kernelRun0_B.sl.v246, kernelRun0_B.sl.v247, kernelRun0_B.sl.v248, kernelRun0_B.sl.v249, kernelRun0_B.sl.v25, kernelRun0_B.sl.v250, kernelRun0_B.sl.v251, kernelRun0_B.sl.v252, kernelRun0_B.sl.v254, kernelRun0_B.sl.v255, kernelRun0_B.sl.v256, kernelRun0_B.sl.v257, kernelRun0_B.sl.v258, kernelRun0_B.sl.v259, kernelRun0_B.sl.v26, kernelRun0_B.sl.v260, kernelRun0_B.sl.v261, kernelRun0_B.sl.v263, kernelRun0_B.sl.v264, kernelRun0_B.sl.v265, kernelRun0_B.sl.v266, kernelRun0_B.sl.v267, kernelRun0_B.sl.v269, kernelRun0_B.sl.v27, kernelRun0_B.sl.v270, kernelRun0_B.sl.v271, kernelRun0_B.sl.v272, kernelRun0_B.sl.v273, kernelRun0_B.sl.v274, kernelRun0_B.sl.v275, kernelRun0_B.sl.v276, kernelRun0_B.sl.v277, kernelRun0_B.sl.v278, kernelRun0_B.sl.v28, kernelRun0_B.sl.v284, kernelRun0_B.sl.v285, kernelRun0_B.sl.v286, kernelRun0_B.sl.v287, kernelRun0_B.sl.v288, kernelRun0_B.sl.v289, kernelRun0_B.sl.v29, kernelRun0_B.sl.v290, kernelRun0_B.sl.v291, kernelRun0_B.sl.v292, kernelRun0_B.sl.v293, kernelRun0_B.sl.v294, kernelRun0_B.sl.v295, kernelRun0_B.sl.v296, kernelRun0_B.sl.v297, kernelRun0_B.sl.v3, kernelRun0_B.sl.v303, kernelRun0_B.sl.v304, kernelRun0_B.sl.v305, kernelRun0_B.sl.v306, kernelRun0_B.sl.v307, kernelRun0_B.sl.v308, kernelRun0_B.sl.v309, kernelRun0_B.sl.v31, kernelRun0_B.sl.v310, kernelRun0_B.sl.v311, kernelRun0_B.sl.v312, kernelRun0_B.sl.v313, kernelRun0_B.sl.v314, kernelRun0_B.sl.v315, kernelRun0_B.sl.v316, kernelRun0_B.sl.v32, kernelRun0_B.sl.v322, kernelRun0_B.sl.v323, kernelRun0_B.sl.v324, kernelRun0_B.sl.v325, kernelRun0_B.sl.v326, kernelRun0_B.sl.v327, kernelRun0_B.sl.v328, kernelRun0_B.sl.v329, kernelRun0_B.sl.v34, kernelRun0_B.sl.v36, kernelRun0_B.sl.v37, kernelRun0_B.sl.v39, kernelRun0_B.sl.v4, kernelRun0_B.sl.v40, kernelRun0_B.sl.v41, kernelRun0_B.sl.v42, kernelRun0_B.sl.v43, kernelRun0_B.sl.v44, kernelRun0_B.sl.v46, kernelRun0_B.sl.v47, kernelRun0_B.sl.v48, kernelRun0_B.sl.v49, kernelRun0_B.sl.v5, kernelRun0_B.sl.v51, kernelRun0_B.sl.v52, kernelRun0_B.sl.v53, kernelRun0_B.sl.v54, kernelRun0_B.sl.v55, kernelRun0_B.sl.v56, kernelRun0_B.sl.v58, kernelRun0_B.sl.v59, kernelRun0_B.sl.v6, kernelRun0_B.sl.v60, kernelRun0_B.sl.v61, kernelRun0_B.sl.v63, kernelRun0_B.sl.v64, kernelRun0_B.sl.v65, kernelRun0_B.sl.v66, kernelRun0_B.sl.v67, kernelRun0_B.sl.v68, kernelRun0_B.sl.v7, kernelRun0_B.sl.v70, kernelRun0_B.sl.v71, kernelRun0_B.sl.v72, kernelRun0_B.sl.v73, kernelRun0_B.sl.v75, kernelRun0_B.sl.v8, kernelRun0_B.sl.v9, load_x, load_v, load_m, load_b, load_t, load_h, load_w0, load_w1024, load_w1536, load_w2048, load_w3584, load_c0, load_c1, load_c2, load_c3]
  exact pieces16 x0 x1 x2 x3 x4 x8 x9

theorem outA_10 (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bQK x0 x1 x2 x3 x4 x5 x6 (k0_pay3 (F := Ideal)) := by
  unfold out0_A_10 bQK
  unfold kernelRun0_A
  dsimp only
  simp only [kernelRun0_A.sl.v75, conv_A, back_A, load_c0, load_b, load_c1]
  exact store_whole (s := S1x256x1024) _ _ _ ![0, 0, 0] (by decide) _ _

theorem outA_11 (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bV x0 x1 x2 x3 x4 := by
  unfold out0_A_11 bV
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact store_whole (s := S1x256x512) _ _ _ ![0, 0, 0] (by decide) _ _

theorem outA_12 (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bO x0 x1 x2 x3 x4 := by
  unfold out0_A_12 bO
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact store_whole (s := S1x256x512) _ _ _ ![0, 0, 0] (by decide) _ _

theorem outA_15 (hc0 : cond0_0 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bG x0 x1 x2 x3 x4 x7 := by
  unfold out0_A_15 bG
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact store_whole (s := S1x256x128) _ _ _ ![0, 0, 0] (by decide) _ _

theorem outA_s (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bS x0 x1 x2 x3 x4 := by
  unfold sout0_A_0 bS
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact store_whole (s := S8x1024) _ _ _ ![0, 0] (by decide) _ _

theorem outA_13 (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bR x0 x1 x2 x3 x4 x8 x9 := by
  unfold out0_A_13
  funext y
  refine View.read_writes_apply_of_pieces VO0_13 _ _ _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact pieces13 x0 x1 x2 x3 x4 x8 x9

theorem outA_14 (hc0 : cond0_0 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bT x0 x1 x2 x3 x4 := by
  unfold out0_A_14
  funext y
  refine View.read_writes_apply_of_pieces VO0_14 _ _ _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)
  unfold kernelRun0_A
  dsimp only
  simp only [turn270_A, turn276_A, turn289_A, turn295_A, turn308_A, turn314_A, turn327_A, turn329_A, all_A]
  exact pieces14 x0 x1 x2 x3 x4

theorem outA_16 (hc0 : cond0_0 i) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = bM x0 x1 x2 x3 x4 x8 x9 := by
  unfold out0_A_16
  funext y
  refine View.read_writes_apply_of_pieces VO0_16 _ _ _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)
  unfold kernelRun0_A
  dsimp only
  simp only [kernelRun0_A.sl.HS0_1, kernelRun0_A.sl.cst, kernelRun0_A.sl.cst_16, kernelRun0_A.sl.cst_174, kernelRun0_A.sl.cst_2, kernelRun0_A.sl.cst_3, kernelRun0_A.sl.cst_53, kernelRun0_A.sl.cst_86, kernelRun0_A.sl.cst_87, kernelRun0_A.sl.cst_9, kernelRun0_A.sl.r, kernelRun0_A.sl.r_1, kernelRun0_A.sl.v1, kernelRun0_A.sl.v10, kernelRun0_A.sl.v11, kernelRun0_A.sl.v114, kernelRun0_A.sl.v115, kernelRun0_A.sl.v117, kernelRun0_A.sl.v118, kernelRun0_A.sl.v120, kernelRun0_A.sl.v122, kernelRun0_A.sl.v123, kernelRun0_A.sl.v126, kernelRun0_A.sl.v128, kernelRun0_A.sl.v129, kernelRun0_A.sl.v13, kernelRun0_A.sl.v131, kernelRun0_A.sl.v133, kernelRun0_A.sl.v135, kernelRun0_A.sl.v138, kernelRun0_A.sl.v139, kernelRun0_A.sl.v14, kernelRun0_A.sl.v140, kernelRun0_A.sl.v142, kernelRun0_A.sl.v143, kernelRun0_A.sl.v144, kernelRun0_A.sl.v145, kernelRun0_A.sl.v146, kernelRun0_A.sl.v147, kernelRun0_A.sl.v148, kernelRun0_A.sl.v149, kernelRun0_A.sl.v15, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v160, kernelRun0_A.sl.v161, kernelRun0_A.sl.v162, kernelRun0_A.sl.v163, kernelRun0_A.sl.v164, kernelRun0_A.sl.v165, kernelRun0_A.sl.v166, kernelRun0_A.sl.v167, kernelRun0_A.sl.v168, kernelRun0_A.sl.v169, kernelRun0_A.sl.v17, kernelRun0_A.sl.v170, kernelRun0_A.sl.v171, kernelRun0_A.sl.v172, kernelRun0_A.sl.v173, kernelRun0_A.sl.v174, kernelRun0_A.sl.v175, kernelRun0_A.sl.v176, kernelRun0_A.sl.v177, kernelRun0_A.sl.v178, kernelRun0_A.sl.v179, kernelRun0_A.sl.v18, kernelRun0_A.sl.v180, kernelRun0_A.sl.v181, kernelRun0_A.sl.v182, kernelRun0_A.sl.v183, kernelRun0_A.sl.v184, kernelRun0_A.sl.v185, kernelRun0_A.sl.v186, kernelRun0_A.sl.v187, kernelRun0_A.sl.v188, kernelRun0_A.sl.v189, kernelRun0_A.sl.v19, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v199, kernelRun0_A.sl.v2, kernelRun0_A.sl.v20, kernelRun0_A.sl.v200, kernelRun0_A.sl.v202, kernelRun0_A.sl.v203, kernelRun0_A.sl.v204, kernelRun0_A.sl.v205, kernelRun0_A.sl.v206, kernelRun0_A.sl.v207, kernelRun0_A.sl.v208, kernelRun0_A.sl.v209, kernelRun0_A.sl.v21, kernelRun0_A.sl.v210, kernelRun0_A.sl.v211, kernelRun0_A.sl.v212, kernelRun0_A.sl.v213, kernelRun0_A.sl.v214, kernelRun0_A.sl.v215, kernelRun0_A.sl.v216, kernelRun0_A.sl.v218, kernelRun0_A.sl.v219, kernelRun0_A.sl.v220, kernelRun0_A.sl.v221, kernelRun0_A.sl.v222, kernelRun0_A.sl.v223, kernelRun0_A.sl.v224, kernelRun0_A.sl.v225, kernelRun0_A.sl.v226, kernelRun0_A.sl.v227, kernelRun0_A.sl.v228, kernelRun0_A.sl.v229, kernelRun0_A.sl.v23, kernelRun0_A.sl.v230, kernelRun0_A.sl.v231, kernelRun0_A.sl.v232, kernelRun0_A.sl.v233, kernelRun0_A.sl.v234, kernelRun0_A.sl.v236, kernelRun0_A.sl.v237, kernelRun0_A.sl.v238, kernelRun0_A.sl.v239, kernelRun0_A.sl.v24, kernelRun0_A.sl.v240, kernelRun0_A.sl.v241, kernelRun0_A.sl.v242, kernelRun0_A.sl.v243, kernelRun0_A.sl.v244, kernelRun0_A.sl.v245, kernelRun0_A.sl.v246, kernelRun0_A.sl.v247, kernelRun0_A.sl.v248, kernelRun0_A.sl.v249, kernelRun0_A.sl.v25, kernelRun0_A.sl.v250, kernelRun0_A.sl.v251, kernelRun0_A.sl.v252, kernelRun0_A.sl.v254, kernelRun0_A.sl.v255, kernelRun0_A.sl.v256, kernelRun0_A.sl.v257, kernelRun0_A.sl.v258, kernelRun0_A.sl.v259, kernelRun0_A.sl.v26, kernelRun0_A.sl.v260, kernelRun0_A.sl.v261, kernelRun0_A.sl.v263, kernelRun0_A.sl.v264, kernelRun0_A.sl.v265, kernelRun0_A.sl.v266, kernelRun0_A.sl.v267, kernelRun0_A.sl.v269, kernelRun0_A.sl.v27, kernelRun0_A.sl.v270, kernelRun0_A.sl.v271, kernelRun0_A.sl.v272, kernelRun0_A.sl.v273, kernelRun0_A.sl.v274, kernelRun0_A.sl.v275, kernelRun0_A.sl.v276, kernelRun0_A.sl.v277, kernelRun0_A.sl.v278, kernelRun0_A.sl.v28, kernelRun0_A.sl.v284, kernelRun0_A.sl.v285, kernelRun0_A.sl.v286, kernelRun0_A.sl.v287, kernelRun0_A.sl.v288, kernelRun0_A.sl.v289, kernelRun0_A.sl.v29, kernelRun0_A.sl.v290, kernelRun0_A.sl.v291, kernelRun0_A.sl.v292, kernelRun0_A.sl.v293, kernelRun0_A.sl.v294, kernelRun0_A.sl.v295, kernelRun0_A.sl.v296, kernelRun0_A.sl.v297, kernelRun0_A.sl.v3, kernelRun0_A.sl.v303, kernelRun0_A.sl.v304, kernelRun0_A.sl.v305, kernelRun0_A.sl.v306, kernelRun0_A.sl.v307, kernelRun0_A.sl.v308, kernelRun0_A.sl.v309, kernelRun0_A.sl.v31, kernelRun0_A.sl.v310, kernelRun0_A.sl.v311, kernelRun0_A.sl.v312, kernelRun0_A.sl.v313, kernelRun0_A.sl.v314, kernelRun0_A.sl.v315, kernelRun0_A.sl.v316, kernelRun0_A.sl.v32, kernelRun0_A.sl.v322, kernelRun0_A.sl.v323, kernelRun0_A.sl.v324, kernelRun0_A.sl.v325, kernelRun0_A.sl.v326, kernelRun0_A.sl.v327, kernelRun0_A.sl.v328, kernelRun0_A.sl.v329, kernelRun0_A.sl.v33, kernelRun0_A.sl.v34, kernelRun0_A.sl.v36, kernelRun0_A.sl.v362, kernelRun0_A.sl.v364, kernelRun0_A.sl.v365, kernelRun0_A.sl.v37, kernelRun0_A.sl.v39, kernelRun0_A.sl.v4, kernelRun0_A.sl.v40, kernelRun0_A.sl.v41, kernelRun0_A.sl.v42, kernelRun0_A.sl.v43, kernelRun0_A.sl.v44, kernelRun0_A.sl.v46, kernelRun0_A.sl.v47, kernelRun0_A.sl.v48, kernelRun0_A.sl.v49, kernelRun0_A.sl.v5, kernelRun0_A.sl.v51, kernelRun0_A.sl.v52, kernelRun0_A.sl.v53, kernelRun0_A.sl.v54, kernelRun0_A.sl.v55, kernelRun0_A.sl.v56, kernelRun0_A.sl.v58, kernelRun0_A.sl.v59, kernelRun0_A.sl.v6, kernelRun0_A.sl.v60, kernelRun0_A.sl.v61, kernelRun0_A.sl.v63, kernelRun0_A.sl.v64, kernelRun0_A.sl.v65, kernelRun0_A.sl.v66, kernelRun0_A.sl.v67, kernelRun0_A.sl.v68, kernelRun0_A.sl.v7, kernelRun0_A.sl.v70, kernelRun0_A.sl.v71, kernelRun0_A.sl.v72, kernelRun0_A.sl.v73, kernelRun0_A.sl.v75, kernelRun0_A.sl.v8, kernelRun0_A.sl.v9, load_x, load_v, load_m, load_b, load_t, load_h, load_w0, load_w1024, load_w1536, load_w2048, load_w3584, load_c0, load_c1, load_c2, load_c3, load_zero]
  exact pieces16 x0 x1 x2 x3 x4 x8 x9

end Cert.Kernel2Ideal.InProj

end
-- ==== Proof.InHost.lean ====
/- What the in-projection kernel's buffers hold when it is entered. -/
module
public import proofs.«01_k».proof.Proof.InPay
public import proofs.«01_k».proof.Proof.Gen.Kernel2Ideal.Frame.Runs
public import Idealize.ShloMosaic.Lib.StableHlo.RunRead
public import Idealize.ShloMosaic.Lib.StableHlo.ReadAt
@[expose] public section
set_option maxRecDepth 16384
noncomputable section
namespace Cert.Kernel2Ideal.InProj
open Cert.InProj Cert.Kernel2Ideal Cert.Kernel2Ideal.Gen
open Idealize.ShloMosaic Idealize.ShloMosaic.TcCoe
variable (m : (ℓ : Loc nD τ sig) → Buf (Elt Ideal) ℓ)

/-- The remainder, of the divisor's sign, of a row of words. -/
def modV (n : BitVec 32) (x : IVec S128 32) : IVec S128 32 :=
  let e : IVec S_ 32 := select (cmpi .eq (constantI S_ 32 n) (constantI S_ 32 0#32)) (constantI S_ 32 1#32) (constantI S_ 32 n)
  let z : IVec S128 32 := broadcastInDim S128 ![] bcast_S_S128 (constantI S_ 32 0#32)
  let r : IVec S128 32 := Host.remsi x (broadcastInDim S128 ![] bcast_S_S128 e)
  select (andi (cmpi .ne (cmpi .slt r z) (broadcastInDim S128 ![] bcast_S_S128 (cmpi .slt e (constantI S_ 32 0#32)))) (cmpi .ne r z))
    (addi r (broadcastInDim S128 ![] bcast_S_S128 e)) r

/-- A lane's place in its head. -/
def laneV : IVec S128 32 := modV 64#32 (iotaInDim S128 32 0)

/-- The frequency a lane reads. -/
def freqIx : IVec S128x1 32 :=
  broadcastInDim S128x1 ![0] bcast_S128_S128x1_0
    (select (cmpi .slt (modV 8#32 laneV) (broadcastInDim S128 ![] bcast_S_S128 (constantI S_ 32 0#32)))
      (addi (modV 8#32 laneV) (broadcastInDim S128 ![] bcast_S_S128 (constantI S_ 32 8#32))) (modV 8#32 laneV))

/-- The rotary frequencies. -/
def invTab : FVec Ideal S8 .f32 :=
  Host.powf (broadcastInDim S8 ![] bcast_S_S8 (constant S_ FTy.f32 1223959552#32))
      (Host.divf
        (Host.negf
          (addf (broadcastInDim S8 ![] bcast_S_S8 (constant S_ FTy.f32 0#32))
            (mulf (broadcastInDim S8 ![] bcast_S_S8 (constant S_ FTy.f32 1073741824#32))
              (sitofp FTy.f32 (iotaInDim S8 32 0)))))
        (broadcastInDim S8 ![] bcast_S_S8 (constant S_ FTy.f32 1098907648#32)))

/-- The lanes' frequencies, zero past the sixteenth of a head. -/
def invRow : FVec Ideal S1x128 .f32 :=
  shapeCast S1x128 (id (select (cmpi .slt laneV (broadcastInDim S128 ![] bcast_S_S128 (constantI S_ 32 16#32)))
    (Host.gather gather_S8_S128x1_S128_n_0_n_n_0_1_1 invTab freqIx) (broadcastInDim S128 ![] bcast_S_S128 (constant S_ FTy.f32 0#32)))) shapeCasts_S128_S1x128

/-- The lanes' signs, zero past the sixteenth of a head. -/
def signRow : FVec Ideal S1x128 .f32 :=
  shapeCast S1x128 (id (select (cmpi .slt laneV (broadcastInDim S128 ![] bcast_S_S128 (constantI S_ 32 8#32)))
    (broadcastInDim S128 ![] bcast_S_S128 (constant S_ FTy.f32 3212836864#32))
    (select (cmpi .slt laneV (broadcastInDim S128 ![] bcast_S_S128 (constantI S_ 32 16#32)))
      (broadcastInDim S128 ![] bcast_S_S128 (constant S_ FTy.f32 1065353216#32)) (broadcastInDim S128 ![] bcast_S_S128 (constant S_ FTy.f32 0#32))))) shapeCasts_S128_S1x128

/-- The rotary angles. -/
def angle (p : IVec S4x8192 32) : FVec Ideal S4x8192x128 .f32 :=
  mulf (broadcastInDim S4x8192x128 ![0, 1, 2] bcast_S4x8192x1_S4x8192x128_0_1_2 (sitofp .f32 (broadcastInDim S4x8192x1 ![0, 1] bcast_S4x8192_S4x8192x1_0_1 p)))
    (broadcastInDim S4x8192x128 ![0, 1, 2] bcast_S1x1x128_S4x8192x128_0_1_2 (broadcastInDim S1x1x128 ![1, 2] bcast_S1x128_S1x1x128_1_2 invRow))

/-- The cosines' table. -/
def cosT (p : IVec S4x8192 32) : FVec Ideal S4x8192x128 .f32 := Host.cos (angle p)

/-- The signed sines' table. -/
def sinT (p : IVec S4x8192 32) : FVec Ideal S4x8192x128 .f32 :=
  mulf (Host.sin (angle p)) (broadcastInDim S4x8192x128 ![0, 1, 2] bcast_S1x1x128_S4x8192x128_0_1_2 (broadcastInDim S1x1x128 ![1, 2] bcast_S1x128_S1x1x128_1_2 signRow))

/-- The place a gate's bias starts at. -/
def place (n : BitVec 32) : IVec S2 32 :=
  concatenate S2 0 [⟨S1, broadcastInDim S1 ![] bcast_S_S1 (constantI S_ 32 0#32)⟩, ⟨S1, broadcastInDim S1 ![] bcast_S_S1 (constantI S_ 32 n)⟩] concatenates_S1_S1_S2_d0

/-- The gates' biases in their lanes. -/
def gateB (a b : FVec Ideal S4 .f32) : FVec Ideal S1x128 .f32 :=
  Host.scatter scatter_S1x128_S2_S4_0_0_01_0 (fun _ b => b)
    (Host.scatter scatter_S1x128_S2_S4_0_0_01_0 (fun _ b => b) (broadcastInDim S1x128 ![] bcast_S_S1x128 (constant S_ .f32 0#32)) (place 0#32) a) (place 4#32) b

/-- The weights in the order the kernel reads them. -/
def wT (w : FVec Ideal S1024x3592 .f32) : FVec Ideal S1024x3712 .bf16 :=
  truncf .bf16 (concatenate S1024x3712 1 [⟨S1024x2048, extractStridedSlice S1024x2048 ![0, 0] w slices_S1024x3592_S1024x2048_0_0⟩,
    ⟨S1024x1536, extractStridedSlice S1024x1536 ![0, 2056] w slices_S1024x3592_S1024x1536_0_2056⟩, ⟨S1024x8, extractStridedSlice S1024x8 ![0, 2048] w slices_S1024x3592_S1024x8_0_2048⟩,
    ⟨S1024x120, broadcastInDim S1024x120 ![] bcast_S_S1024x120 (constant S_ .f32 0#32)⟩] concatenates_S1024x2048_S1024x1536_S1024x8_S1024x120_S1024x3712_d1) bitsLt_bf16_f32

theorem laneV_apply (l : Fin 128) : laneV (ix1 l) = BitVec.ofNat 32 (l.val % 64) := by
  pointwise [laneV, modV]
  revert l
  decide +kernel

theorem freqIx_apply (l : Fin 128) : freqIx (ix2 l 0) = BitVec.ofNat 32 (l.val % 64 % 8) := by
  pointwise [freqIx, laneV, modV]
  revert l
  decide +kernel

theorem V_v9 (c : Dev nD) : V m c main_v9 = invTab := by
  unfold V
  after_reads_simp
  rfl
theorem V_v63 (c : Dev nD) : V m c main_v63 = signRow := by
  unfold V
  after_reads_simp
  rfl
theorem V_v52 (c : Dev nD) : V m c main_v52 = invRow := by
  unfold V
  after_reads_simp
  rfl

theorem V_v70 (c : Dev nD) : V m c main_v70 = cosT (m ((c : Thread nD τ).loc main_arg1)) := by
  unfold V
  after_reads_simp
  rfl
theorem V_v74 (c : Dev nD) : V m c main_v74 = sinT (m ((c : Thread nD τ).loc main_arg1)) := by
  unfold V
  after_reads_simp
  rfl
theorem V_v84 (c : Dev nD) : V m c main_v84 = shapeCast S1x1024 (m ((c : Thread nD τ).loc main_arg4) : FVec Ideal S1024 .f32) shapeCasts_S1024_S1x1024 := by
  unfold V
  after_reads_simp
  rfl
theorem V_v91 (c : Dev nD) : V m c main_v91 = shapeCast S1x1024 (m ((c : Thread nD τ).loc main_arg7) : FVec Ideal S1024 .f32) shapeCasts_S1024_S1x1024 := by
  unfold V
  after_reads_simp
  rfl
theorem V_v90 (c : Dev nD) : V m c main_v90 = wT (m ((c : Thread nD τ).loc main_arg5)) := by
  unfold V
  after_reads_simp
  rfl
theorem V_v83 (c : Dev nD) : V m c main_v83 = gateB (m ((c : Thread nD τ).loc main_arg8)) (m ((c : Thread nD τ).loc main_arg9)) := by
  unfold V
  after_reads_simp
  rfl
theorem V_arg0 (c : Dev nD) : V m c main_arg0 = m ((c : Thread nD τ).loc main_arg0) := by
  unfold V
  after_reads_simp
theorem V_arg2 (c : Dev nD) : V m c main_arg2 = m ((c : Thread nD τ).loc main_arg2) := by
  unfold V
  after_reads_simp
theorem V_arg3 (c : Dev nD) : V m c main_arg3 = m ((c : Thread nD τ).loc main_arg3) := by
  unfold V
  after_reads_simp
theorem V_arg6 (c : Dev nD) : V m c main_arg6 = m ((c : Thread nD τ).loc main_arg6) := by
  unfold V
  after_reads_simp

/-! ## The tables at a place -/

theorem slt_lane : ∀ l : Fin 128, IntOp.cmpi .slt (BitVec.ofNat 32 (l.val % 64)) 16#32 = (if l.val % 64 < 16 then 1#1 else 0#1) ∧
    IntOp.cmpi .slt (BitVec.ofNat 32 (l.val % 64)) 8#32 = (if l.val % 64 < 8 then 1#1 else 0#1) := by decide +kernel

theorem freq_place (l : Fin 128) : gather_S8_S128x1_S128_n_0_n_n_0_1_1.operandIdx (ix1 l) freqIx = ix1 ⟨l.val % 64 % 8, by omega⟩ := by
  have h : freqIx = fun y => BitVec.ofNat 32 ((y (0 : Fin 2)).val % 64 % 8) := by
    funext y
    have h1 : (y (1 : Fin 2)).val < 1 := (y (1 : Fin 2)).isLt
    have hy : y = ix2 (n0 := 128) (n1 := 1) (y (0 : Fin 2)) 0 := by
      funext a
      match a with
      | ⟨0, _⟩ => rfl
      | ⟨1, _⟩ => exact Fin.ext (by show (y (1 : Fin 2)).val = 0; omega)
    exact (congrArg freqIx hy).trans (freqIx_apply _)
  rw [h]
  have h0 : ∀ l : Fin 128, (gather_S8_S128x1_S128_n_0_n_n_0_1_1.operandIdx (ix1 l) (fun y : S128x1.Idx => BitVec.ofNat 32 ((y (0 : Fin 2)).val % 64 % 8)) 0).val = l.val % 64 % 8 := by
    decide +kernel
  funext a
  match a with
  | ⟨0, _⟩ => exact Fin.ext (h0 l)

theorem invRow_apply (l : Fin 128) : invRow (ix2 0 l) = if l.val % 64 < 16 then invTab (ix1 ⟨l.val % 64 % 8, by omega⟩) else 0 := by
  unfold invRow
  have e : Host.gather gather_S8_S128x1_S128_n_0_n_n_0_1_1 invTab freqIx (ix1 l) = invTab (ix1 ⟨l.val % 64 % 8, by omega⟩) := congrArg invTab (freq_place l)
  generalize Host.gather gather_S8_S128x1_S128_n_0_n_n_0_1_1 invTab freqIx = g at e ⊢
  have hl := laneV_apply l
  generalize laneV = v at hl ⊢
  simp only [id]
  pointwise
  rw [hl, e, (slt_lane l).1]
  by_cases h : l.val % 64 < 16 <;> simp [h, Scalar.select]

theorem signRow_apply (l : Fin 128) : signRow (ix2 0 l) = if l.val % 64 < 8 then cst 0xBF800000#32 else if l.val % 64 < 16 then 1 else 0 := by
  unfold signRow
  have hl := laneV_apply l
  generalize laneV = v at hl ⊢
  simp only [id]
  pointwise [cst]
  rw [hl, (slt_lane l).1, (slt_lane l).2]
  by_cases h : l.val % 64 < 8 <;> by_cases h' : l.val % 64 < 16 <;> simp [h, h', Scalar.select]

theorem angle_apply (p : IVec S4x8192 32) (b : Fin 4) (t : Fin 8192) (l : Fin 128) :
    angle p (ix3 b t l) = (((p (ix2 b t)).toInt : ℝ) : EReal) * invRow (ix2 0 l) := by
  generalize hv : invRow = v
  pointwise [angle]
  rw [hv]
  rfl

theorem cosT_apply (p : IVec S4x8192 32) (b : Fin 4) (t : Fin 8192) (l : Fin 128) :
    cosT p (ix3 b t l) = Ideal.cos ((((p (ix2 b t)).toInt : ℝ) : EReal) * invRow (ix2 0 l)) := by
  rw [← angle_apply]
  pointwise [cosT]

theorem sinT_apply (p : IVec S4x8192 32) (b : Fin 4) (t : Fin 8192) (l : Fin 128) :
    sinT p (ix3 b t l) = Ideal.sin ((((p (ix2 b t)).toInt : ℝ) : EReal) * invRow (ix2 0 l)) * signRow (ix2 0 l) := by
  rw [← angle_apply]
  pointwise [sinT]

theorem wT_apply (w : FVec Ideal S1024x3592 .f32) (k : Fin 1024) (q : Fin 3712) :
    wT w (ix2 k q) = if h : q.val < 2048 then w (ix2 k ⟨q.val, by omega⟩) else if h : q.val < 3584 then w (ix2 k ⟨q.val + 8, by omega⟩)
      else if h : q.val < 3592 then w (ix2 k ⟨q.val - 1536, by omega⟩) else 0 := by
  pointwise [wT]
  by_cases h1 : q.val < 2048
  · rw [dif_pos h1, dif_pos h1]
  rw [dif_neg h1, dif_neg h1]
  by_cases h2 : q.val < 3584
  · rw [dif_pos h2, dif_pos (by omega)]
    exact congrArg (fun i => w (ix2 k i)) (Fin.ext (by show 2056 + (q.val - 2048) = q.val + 8; omega))
  rw [dif_neg h2, dif_neg (by omega)]
  by_cases h3 : q.val < 3592
  · rw [dif_pos h3, dif_pos (by omega)]
    exact congrArg (fun i => w (ix2 k i)) (Fin.ext (by show 2048 + (q.val - 2048 - 1536) = q.val - 1536; omega))
  · rw [dif_neg h3, dif_neg (by omega)]

theorem fold_four {β : Type} (N : ℕ) (hN : 4 = N) (G : β → Fin N → β) (x : β) :
    (List.finRange N).foldl G x = G (G (G (G x (Fin.cast hN 0)) (Fin.cast hN 1)) (Fin.cast hN 2)) (Fin.cast hN 3) := by
  subst hN
  rfl

theorem four_places (n : Fin S4.numel) : S4.rowMajor.symm n = ix1 (Fin.cast (by decide) n) := by
  have h : ∀ n : Fin S4.numel, (S4.rowMajor.symm n (0 : Fin 1)).val = n.val := by decide +kernel
  funext a
  match a with
  | ⟨0, _⟩ => exact Fin.ext (h n)

/-- Four entries written over a row from lane `o` on. -/
theorem scatter_row (x : FVec Ideal S1x128 .f32) (u : FVec Ideal S4 .f32) (p : IVec S2 32) (o : ℕ) (ho : o + 4 ≤ 128)
    (hp : ∀ n : Fin 4, scatter_S1x128_S2_S4_0_0_01_0.resultIdx? (ix1 n) p = some (ix2 0 ⟨o + n.val, by omega⟩)) (l : Fin 128) :
    Host.scatter scatter_S1x128_S2_S4_0_0_01_0 (fun _ b => b) x p u (ix2 0 l) =
      if h : o ≤ l.val ∧ l.val < o + 4 then u (ix1 ⟨l.val - o, by omega⟩) else x (ix2 0 l) := by
  have he : ∀ n : Fin 4, (ix2 (n0 := 1) (n1 := 128) 0 l = ix2 0 ⟨o + n.val, by omega⟩) ↔ l.val = o + n.val := fun n =>
    ⟨fun h => congrArg Fin.val (congrFun h (1 : Fin 2)), fun h => congrArg (ix2 0) (Fin.ext h)⟩
  unfold Host.scatter
  rw [fold_four S4.numel (by decide)]
  have hq : ∀ n : Fin 4, S4.rowMajor.symm (Fin.cast (by decide) n) = ix1 n := fun n => four_places _
  simp only [hq, hp, he]
  by_cases h : o ≤ l.val ∧ l.val < o + 4
  · rw [dif_pos h]
    have hc : l.val = o + 0 ∨ l.val = o + 1 ∨ l.val = o + 2 ∨ l.val = o + 3 := by omega
    have hu : ∀ (n : Fin 4), l.val = o + n.val → u (ix1 ⟨l.val - o, by omega⟩) = u (ix1 n) := fun n hn => congrArg (fun i => u (ix1 i)) (Fin.ext (by show l.val - o = n.val; omega))
    rcases hc with hc | hc | hc | hc
    · rw [hu 0 hc, if_neg (by show ¬ l.val = o + 3; omega), if_neg (by show ¬ l.val = o + 2; omega), if_neg (by show ¬ l.val = o + 1; omega), if_pos (by show l.val = o + 0; omega)]
    · rw [hu 1 hc, if_neg (by show ¬ l.val = o + 3; omega), if_neg (by show ¬ l.val = o + 2; omega), if_pos (by show l.val = o + 1; omega)]
    · rw [hu 2 hc, if_neg (by show ¬ l.val = o + 3; omega), if_pos (by show l.val = o + 2; omega)]
    · rw [hu 3 hc, if_pos (by show l.val = o + 3; omega)]
  · rw [dif_neg h, if_neg (by show ¬ l.val = o + 3; omega), if_neg (by show ¬ l.val = o + 2; omega), if_neg (by show ¬ l.val = o + 1; omega), if_neg (by show ¬ l.val = o + 0; omega)]

theorem place_at : (∀ n : Fin 4, scatter_S1x128_S2_S4_0_0_01_0.resultIdx? (ix1 n) (place 0#32) = some (ix2 0 ⟨0 + n.val, by omega⟩)) ∧
    ∀ n : Fin 4, scatter_S1x128_S2_S4_0_0_01_0.resultIdx? (ix1 n) (place 4#32) = some (ix2 0 ⟨4 + n.val, by omega⟩) := by
  decide +kernel

theorem gateB_apply (a b : FVec Ideal S4 .f32) (l : Fin 128) :
    gateB a b (ix2 0 l) = if h : l.val < 4 then a (ix1 ⟨l.val, h⟩) else if h : l.val < 8 then b (ix1 ⟨l.val - 4, by omega⟩) else 0 := by
  unfold gateB
  rw [scatter_row _ _ _ 4 (by decide) place_at.2, scatter_row _ _ _ 0 (by decide) place_at.1]
  by_cases h : l.val < 4
  · rw [dif_pos h, dif_neg (by omega), dif_pos ⟨Nat.zero_le _, by omega⟩]
    rfl
  rw [dif_neg h]
  by_cases h' : l.val < 8
  · rw [dif_pos h', dif_pos ⟨by omega, by omega⟩]
  · rw [dif_neg h', dif_neg (by omega), dif_neg (by omega)]
    pointwise

end Cert.Kernel2Ideal.InProj

end
-- ==== Proof.InGrid.lean ====
/- The in-projection kernel's results at an index, from the arrays it is given. -/
module

public import proofs.«01_k».proof.Proof.InSpec
public import proofs.«01_k».proof.Proof.InBlocks
public import proofs.«01_k».proof.Proof.InHost
public import proofs.«01_k».proof.Proof.Gen.Kernel2Ideal.Value

@[expose] public section

set_option maxRecDepth 16384

noncomputable section

namespace Cert.Kernel2Ideal.InProj

open Cert.InProj Cert.Kernel2Ideal Cert.Kernel2Ideal.Gen Cert.Kernel2Ideal.Value
open Idealize.ShloMosaic Idealize.ShloMosaic.TcCoe

variable (m : (ℓ : Loc nD τ sig) → Buf (Elt Ideal) ℓ) (c : Dev nD)

/-! ## Which part of each array a point reads -/

theorem index_0 : ∀ t : Fin cfg0.N, win0_0.index t = ![t.val / 32, t.val % 32, 0] := by decide +kernel

theorem index_2 : ∀ t : Fin cfg0.N, win0_2.index t = ![t.val / 32, 0, 0] := by decide +kernel

theorem index_3 : ∀ t : Fin cfg0.N, win0_3.index t = ![t.val / 32, 0, 0] := by decide +kernel

theorem index_8 : ∀ t : Fin cfg0.N, win0_8.index t = ![t.val / 32, t.val % 32, 0] := by decide +kernel

theorem index_9 : ∀ t : Fin cfg0.N, win0_9.index t = ![t.val / 32, t.val % 32, 0] := by decide +kernel

theorem index_1 : ∀ t : Fin cfg0.N, win0_1.index t = ![0, 0] := by decide +kernel

theorem index_4 : ∀ t : Fin cfg0.N, win0_4.index t = ![0, 0] := by decide +kernel

theorem index_5 : ∀ t : Fin cfg0.N, win0_5.index t = ![0, 0] := by decide +kernel

theorem index_6 : ∀ t : Fin cfg0.N, win0_6.index t = ![0, 0] := by decide +kernel

theorem index_7 : ∀ t : Fin cfg0.N, win0_7.index t = ![0, 0] := by decide +kernel

/-- A point's number is below 128. -/
theorem pt_lt (t : Fin cfg0.N) : t.val < 128 := lt_of_lt_of_eq t.isLt N_0

theorem blk_0 (t : Fin cfg0.N) (r : Fin 256) (k : Fin 1024) :
    iblk m c 0 t (ix3 (n0 := 1) 0 r k) = V m c main_arg0 (ix3 ⟨t.val / 32, by have := pt_lt t; omega⟩ ⟨t.val % 32 * 256 + r.val, by omega⟩ k) := by
  have hi := index_0 t
  have ht := pt_lt t
  refine congrArg (V m c main_arg0) (funext fun a => Fin.ext ?_)
  match a with
  | ⟨0, _⟩ =>
    show win0_0.index t (0 : Fin 3) * 1 + 1 * 0 = t.val / 32
    rw [hi]; show t.val / 32 * 1 + 1 * 0 = _; omega
  | ⟨1, _⟩ =>
    show win0_0.index t (1 : Fin 3) * 256 + 1 * r.val = t.val % 32 * 256 + r.val
    rw [hi]; show t.val % 32 * 256 + 1 * r.val = _; omega
  | ⟨2, _⟩ =>
    show win0_0.index t (2 : Fin 3) * 1024 + 1 * k.val = k.val
    rw [hi]; show 0 * 1024 + 1 * k.val = _; omega

theorem blk_2 (t : Fin cfg0.N) (r : Fin 1) (k : Fin 1024) :
    iblk m c 2 t (ix3 (n0 := 1) 0 r k) = V m c main_arg2 (ix3 ⟨t.val / 32, by have := pt_lt t; omega⟩ r k) := by
  have hi := index_2 t
  have ht := pt_lt t
  refine congrArg (V m c main_arg2) (funext fun a => Fin.ext ?_)
  match a with
  | ⟨0, _⟩ =>
    show win0_2.index t (0 : Fin 3) * 1 + 1 * 0 = t.val / 32
    rw [hi]; show t.val / 32 * 1 + 1 * 0 = _; omega
  | ⟨1, _⟩ =>
    show win0_2.index t (1 : Fin 3) * 1 + 1 * r.val = r.val
    rw [hi]; show 0 * 1 + 1 * r.val = _; omega
  | ⟨2, _⟩ =>
    show win0_2.index t (2 : Fin 3) * 1024 + 1 * k.val = k.val
    rw [hi]; show 0 * 1024 + 1 * k.val = _; omega

theorem blk_3 (t : Fin cfg0.N) (r : Fin 1) (k : Fin 1024) :
    iblk m c 3 t (ix3 (n0 := 1) 0 r k) = V m c main_arg3 (ix3 ⟨t.val / 32, by have := pt_lt t; omega⟩ r k) := by
  have hi := index_3 t
  have ht := pt_lt t
  refine congrArg (V m c main_arg3) (funext fun a => Fin.ext ?_)
  match a with
  | ⟨0, _⟩ =>
    show win0_3.index t (0 : Fin 3) * 1 + 1 * 0 = t.val / 32
    rw [hi]; show t.val / 32 * 1 + 1 * 0 = _; omega
  | ⟨1, _⟩ =>
    show win0_3.index t (1 : Fin 3) * 1 + 1 * r.val = r.val
    rw [hi]; show 0 * 1 + 1 * r.val = _; omega
  | ⟨2, _⟩ =>
    show win0_3.index t (2 : Fin 3) * 1024 + 1 * k.val = k.val
    rw [hi]; show 0 * 1024 + 1 * k.val = _; omega

theorem blk_8 (t : Fin cfg0.N) (r : Fin 256) (k : Fin 128) :
    iblk m c 8 t (ix3 (n0 := 1) 0 r k) = V m c main_v70 (ix3 ⟨t.val / 32, by have := pt_lt t; omega⟩ ⟨t.val % 32 * 256 + r.val, by omega⟩ k) := by
  have hi := index_8 t
  have ht := pt_lt t
  refine congrArg (V m c main_v70) (funext fun a => Fin.ext ?_)
  match a with
  | ⟨0, _⟩ =>
    show win0_8.index t (0 : Fin 3) * 1 + 1 * 0 = t.val / 32
    rw [hi]; show t.val / 32 * 1 + 1 * 0 = _; omega
  | ⟨1, _⟩ =>
    show win0_8.index t (1 : Fin 3) * 256 + 1 * r.val = t.val % 32 * 256 + r.val
    rw [hi]; show t.val % 32 * 256 + 1 * r.val = _; omega
  | ⟨2, _⟩ =>
    show win0_8.index t (2 : Fin 3) * 128 + 1 * k.val = k.val
    rw [hi]; show 0 * 128 + 1 * k.val = _; omega

theorem blk_9 (t : Fin cfg0.N) (r : Fin 256) (k : Fin 128) :
    iblk m c 9 t (ix3 (n0 := 1) 0 r k) = V m c main_v74 (ix3 ⟨t.val / 32, by have := pt_lt t; omega⟩ ⟨t.val % 32 * 256 + r.val, by omega⟩ k) := by
  have hi := index_9 t
  have ht := pt_lt t
  refine congrArg (V m c main_v74) (funext fun a => Fin.ext ?_)
  match a with
  | ⟨0, _⟩ =>
    show win0_9.index t (0 : Fin 3) * 1 + 1 * 0 = t.val / 32
    rw [hi]; show t.val / 32 * 1 + 1 * 0 = _; omega
  | ⟨1, _⟩ =>
    show win0_9.index t (1 : Fin 3) * 256 + 1 * r.val = t.val % 32 * 256 + r.val
    rw [hi]; show t.val % 32 * 256 + 1 * r.val = _; omega
  | ⟨2, _⟩ =>
    show win0_9.index t (2 : Fin 3) * 128 + 1 * k.val = k.val
    rw [hi]; show 0 * 128 + 1 * k.val = _; omega

theorem blk_1 (t : Fin cfg0.N) (r : Fin 1) (k : Fin 1024) :
    iblk m c 1 t (ix2 r k) = V m c main_v84 (ix2 r k) := by
  have hi := index_1 t
  refine congrArg (V m c main_v84) (funext fun a => Fin.ext ?_)
  match a with
  | ⟨0, _⟩ =>
    show win0_1.index t (0 : Fin 2) * 1 + 1 * r.val = r.val
    rw [hi]; show 0 * 1 + 1 * r.val = _; omega
  | ⟨1, _⟩ =>
    show win0_1.index t (1 : Fin 2) * 1024 + 1 * k.val = k.val
    rw [hi]; show 0 * 1024 + 1 * k.val = _; omega

theorem blk_4 (t : Fin cfg0.N) (r : Fin 1024) (k : Fin 3712) :
    iblk m c 4 t (ix2 r k) = V m c main_v90 (ix2 r k) := by
  have hi := index_4 t
  refine congrArg (V m c main_v90) (funext fun a => Fin.ext ?_)
  match a with
  | ⟨0, _⟩ =>
    show win0_4.index t (0 : Fin 2) * 1024 + 1 * r.val = r.val
    rw [hi]; show 0 * 1024 + 1 * r.val = _; omega
  | ⟨1, _⟩ =>
    show win0_4.index t (1 : Fin 2) * 3712 + 1 * k.val = k.val
    rw [hi]; show 0 * 3712 + 1 * k.val = _; omega

theorem blk_5 (t : Fin cfg0.N) (r : Fin 4) (k : Fin 1024) :
    iblk m c 5 t (ix2 r k) = V m c main_arg6 (ix2 r k) := by
  have hi := index_5 t
  refine congrArg (V m c main_arg6) (funext fun a => Fin.ext ?_)
  match a with
  | ⟨0, _⟩ =>
    show win0_5.index t (0 : Fin 2) * 4 + 1 * r.val = r.val
    rw [hi]; show 0 * 4 + 1 * r.val = _; omega
  | ⟨1, _⟩ =>
    show win0_5.index t (1 : Fin 2) * 1024 + 1 * k.val = k.val
    rw [hi]; show 0 * 1024 + 1 * k.val = _; omega

theorem blk_6 (t : Fin cfg0.N) (r : Fin 1) (k : Fin 1024) :
    iblk m c 6 t (ix2 r k) = V m c main_v91 (ix2 r k) := by
  have hi := index_6 t
  refine congrArg (V m c main_v91) (funext fun a => Fin.ext ?_)
  match a with
  | ⟨0, _⟩ =>
    show win0_6.index t (0 : Fin 2) * 1 + 1 * r.val = r.val
    rw [hi]; show 0 * 1 + 1 * r.val = _; omega
  | ⟨1, _⟩ =>
    show win0_6.index t (1 : Fin 2) * 1024 + 1 * k.val = k.val
    rw [hi]; show 0 * 1024 + 1 * k.val = _; omega

theorem blk_7 (t : Fin cfg0.N) (r : Fin 1) (k : Fin 128) :
    iblk m c 7 t (ix2 r k) = V m c main_v83 (ix2 r k) := by
  have hi := index_7 t
  refine congrArg (V m c main_v83) (funext fun a => Fin.ext ?_)
  match a with
  | ⟨0, _⟩ =>
    show win0_7.index t (0 : Fin 2) * 1 + 1 * r.val = r.val
    rw [hi]; show 0 * 1 + 1 * r.val = _; omega
  | ⟨1, _⟩ =>
    show win0_7.index t (1 : Fin 2) * 128 + 1 * k.val = k.val
    rw [hi]; show 0 * 128 + 1 * k.val = _; omega

/-! ## What a point leaves -/

/-- The rows the convolution looks back on: zeros at a sequence's start, else the point before's last eight. -/
def scr (t : Fin cfg0.N) : FVec Ideal S8x1024 .f32 :=
  if t.val % 32 = 0 then k0_pay3 (F := Ideal)
  else bS (iblk m c 0 ⟨t.val - 1, lt_of_le_of_lt (Nat.sub_le _ _) t.isLt⟩) (iblk m c 1 ⟨t.val - 1, lt_of_le_of_lt (Nat.sub_le _ _) t.isLt⟩)
    (iblk m c 2 ⟨t.val - 1, lt_of_le_of_lt (Nat.sub_le _ _) t.isLt⟩) (iblk m c 3 ⟨t.val - 1, lt_of_le_of_lt (Nat.sub_le _ _) t.isLt⟩)
    (iblk m c 4 ⟨t.val - 1, lt_of_le_of_lt (Nat.sub_le _ _) t.isLt⟩)

theorem left_s (t : Fin cfg0.N) : (outsAt0 m c t.val t.isLt).2.2.2.2.2.2.2 = bS (iblk m c 0 t) (iblk m c 1 t) (iblk m c 2 t) (iblk m c 3 t) (iblk m c 4 t) := by
  by_cases h0 : t.val % 32 = 0
  · rw [outsAt0_A m c t h0]; dsimp only; rw [outA_s]
  · rw [outsAt0_B m c t h0]; dsimp only; rw [outB_s]

theorem left_11 (t : Fin cfg0.N) : (outsAt0 m c t.val t.isLt).2.1 = bV (iblk m c 0 t) (iblk m c 1 t) (iblk m c 2 t) (iblk m c 3 t) (iblk m c 4 t) := by
  by_cases h0 : t.val % 32 = 0
  · rw [outsAt0_A m c t h0]; dsimp only; rw [outA_11]
  · rw [outsAt0_B m c t h0]; dsimp only; rw [outB_11]

theorem left_12 (t : Fin cfg0.N) : (outsAt0 m c t.val t.isLt).2.2.1 = bO (iblk m c 0 t) (iblk m c 1 t) (iblk m c 2 t) (iblk m c 3 t) (iblk m c 4 t) := by
  by_cases h0 : t.val % 32 = 0
  · rw [outsAt0_A m c t h0]; dsimp only; rw [outA_12]
  · rw [outsAt0_B m c t h0]; dsimp only; rw [outB_12]

theorem left_13 (t : Fin cfg0.N) : (outsAt0 m c t.val t.isLt).2.2.2.1 = bR (iblk m c 0 t) (iblk m c 1 t) (iblk m c 2 t) (iblk m c 3 t) (iblk m c 4 t) (iblk m c 8 t) (iblk m c 9 t) := by
  by_cases h0 : t.val % 32 = 0
  · rw [outsAt0_A m c t h0]; dsimp only; rw [outA_13]
  · rw [outsAt0_B m c t h0]; dsimp only; rw [outB_13]

theorem left_14 (t : Fin cfg0.N) : (outsAt0 m c t.val t.isLt).2.2.2.2.1 = bT (iblk m c 0 t) (iblk m c 1 t) (iblk m c 2 t) (iblk m c 3 t) (iblk m c 4 t) := by
  by_cases h0 : t.val % 32 = 0
  · rw [outsAt0_A m c t h0]; dsimp only; rw [outA_14]
  · rw [outsAt0_B m c t h0]; dsimp only; rw [outB_14]

theorem left_15 (t : Fin cfg0.N) : (outsAt0 m c t.val t.isLt).2.2.2.2.2.1 = bG (iblk m c 0 t) (iblk m c 1 t) (iblk m c 2 t) (iblk m c 3 t) (iblk m c 4 t) (iblk m c 7 t) := by
  by_cases h0 : t.val % 32 = 0
  · rw [outsAt0_A m c t h0]; dsimp only; rw [outA_15]
  · rw [outsAt0_B m c t h0]; dsimp only; rw [outB_15]

theorem left_16 (t : Fin cfg0.N) : (outsAt0 m c t.val t.isLt).2.2.2.2.2.2.1 = bM (iblk m c 0 t) (iblk m c 1 t) (iblk m c 2 t) (iblk m c 3 t) (iblk m c 4 t) (iblk m c 8 t) (iblk m c 9 t) := by
  by_cases h0 : t.val % 32 = 0
  · rw [outsAt0_A m c t h0]; dsimp only; rw [outA_16]
  · rw [outsAt0_B m c t h0]; dsimp only; rw [outB_16]

theorem left_10 (t : Fin cfg0.N) : (outsAt0 m c t.val t.isLt).1 = bQK (iblk m c 0 t) (iblk m c 1 t) (iblk m c 2 t) (iblk m c 3 t) (iblk m c 4 t) (iblk m c 5 t) (iblk m c 6 t) (scr m c t) := by
  unfold scr
  by_cases h0 : t.val % 32 = 0
  · rw [outsAt0_A m c t h0, if_pos h0]; dsimp only; rw [outA_10]
  · rw [outsAt0_B m c t h0, if_neg h0, ← left_s]; dsimp only; rw [outB_10]

/-- The point that fills row `T` of sequence `i`. -/
def ptOf (i : Fin 4) (T : Fin 8192) : Fin cfg0.N := ⟨32 * i.val + T.val / 256, lt_of_lt_of_eq (by omega : 32 * i.val + T.val / 256 < 128) N_0.symm⟩

theorem ptOf_div (i : Fin 4) (T : Fin 8192) : (ptOf i T).val / 32 = i.val := by show (32 * i.val + T.val / 256) / 32 = _; omega

theorem ptOf_mod (i : Fin 4) (T : Fin 8192) : (ptOf i T).val % 32 = T.val / 256 := by show (32 * i.val + T.val / 256) % 32 = _; omega

theorem outsAt0_val {n n' : ℕ} (h : n = n') (hn : n < cfg0.N) (hn' : n' < cfg0.N) : outsAt0 m c n hn = outsAt0 m c n' hn' := by subst h; rfl

theorem G10_apply (i : Fin 4) (T : Fin 8192) (q : Fin 1024) :
    G10 m c (ix3 i T q) = (outsAt0 m c (ptOf i T).val (ptOf i T).isLt).1 (ix3 (n0 := 1) 0 ⟨T.val % 256, by omega⟩ q) := by
  have hp : pt10Of (ix3 i T q) = (ptOf i T).val := by
    show 32 * (i.val / 1 - 0) + 1 * (T.val / 256 - 0) + 1 * (q.val / 1024 - 0) = 32 * i.val + T.val / 256
    omega
  have hl : loc10Of (ix3 i T q) = ix3 (n0 := 1) 0 ⟨T.val % 256, by omega⟩ q := by
    funext a
    match a with
    | ⟨0, _⟩ => exact Fin.ext (Nat.mod_one _)
    | ⟨1, _⟩ => rfl
    | ⟨2, _⟩ => exact Fin.ext (Nat.mod_eq_of_lt q.isLt)
  unfold G10
  have hn := lt_of_eq_of_lt hp (ptOf i T).isLt
  rw [dif_pos hn, ← outsAt0_sweep m c _ hn, outsAt0_val m c hp hn (ptOf i T).isLt, hl]

theorem G11_apply (i : Fin 4) (T : Fin 8192) (q : Fin 512) :
    G11 m c (ix3 i T q) = (outsAt0 m c (ptOf i T).val (ptOf i T).isLt).2.1 (ix3 (n0 := 1) 0 ⟨T.val % 256, by omega⟩ q) := by
  have hp : pt11Of (ix3 i T q) = (ptOf i T).val := by
    show 32 * (i.val / 1 - 0) + 1 * (T.val / 256 - 0) + 1 * (q.val / 512 - 0) = 32 * i.val + T.val / 256
    omega
  have hl : loc11Of (ix3 i T q) = ix3 (n0 := 1) 0 ⟨T.val % 256, by omega⟩ q := by
    funext a
    match a with
    | ⟨0, _⟩ => exact Fin.ext (Nat.mod_one _)
    | ⟨1, _⟩ => rfl
    | ⟨2, _⟩ => exact Fin.ext (Nat.mod_eq_of_lt q.isLt)
  unfold G11
  have hn := lt_of_eq_of_lt hp (ptOf i T).isLt
  rw [dif_pos hn, ← outsAt0_sweep m c _ hn, outsAt0_val m c hp hn (ptOf i T).isLt, hl]

theorem G12_apply (i : Fin 4) (T : Fin 8192) (q : Fin 512) :
    G12 m c (ix3 i T q) = (outsAt0 m c (ptOf i T).val (ptOf i T).isLt).2.2.1 (ix3 (n0 := 1) 0 ⟨T.val % 256, by omega⟩ q) := by
  have hp : pt12Of (ix3 i T q) = (ptOf i T).val := by
    show 32 * (i.val / 1 - 0) + 1 * (T.val / 256 - 0) + 1 * (q.val / 512 - 0) = 32 * i.val + T.val / 256
    omega
  have hl : loc12Of (ix3 i T q) = ix3 (n0 := 1) 0 ⟨T.val % 256, by omega⟩ q := by
    funext a
    match a with
    | ⟨0, _⟩ => exact Fin.ext (Nat.mod_one _)
    | ⟨1, _⟩ => rfl
    | ⟨2, _⟩ => exact Fin.ext (Nat.mod_eq_of_lt q.isLt)
  unfold G12
  have hn := lt_of_eq_of_lt hp (ptOf i T).isLt
  rw [dif_pos hn, ← outsAt0_sweep m c _ hn, outsAt0_val m c hp hn (ptOf i T).isLt, hl]

theorem G13_apply (i : Fin 4) (T : Fin 8192) (q : Fin 1024) :
    G13 m c (ix3 i T q) = (outsAt0 m c (ptOf i T).val (ptOf i T).isLt).2.2.2.1 (ix3 (n0 := 1) 0 ⟨T.val % 256, by omega⟩ q) := by
  have hp : pt13Of (ix3 i T q) = (ptOf i T).val := by
    show 32 * (i.val / 1 - 0) + 1 * (T.val / 256 - 0) + 1 * (q.val / 1024 - 0) = 32 * i.val + T.val / 256
    omega
  have hl : loc13Of (ix3 i T q) = ix3 (n0 := 1) 0 ⟨T.val % 256, by omega⟩ q := by
    funext a
    match a with
    | ⟨0, _⟩ => exact Fin.ext (Nat.mod_one _)
    | ⟨1, _⟩ => rfl
    | ⟨2, _⟩ => exact Fin.ext (Nat.mod_eq_of_lt q.isLt)
  unfold G13
  have hn := lt_of_eq_of_lt hp (ptOf i T).isLt
  rw [dif_pos hn, ← outsAt0_sweep m c _ hn, outsAt0_val m c hp hn (ptOf i T).isLt, hl]

theorem G15_apply (i : Fin 4) (T : Fin 8192) (q : Fin 128) :
    G15 m c (ix3 i T q) = (outsAt0 m c (ptOf i T).val (ptOf i T).isLt).2.2.2.2.2.1 (ix3 (n0 := 1) 0 ⟨T.val % 256, by omega⟩ q) := by
  have hp : pt15Of (ix3 i T q) = (ptOf i T).val := by
    show 32 * (i.val / 1 - 0) + 1 * (T.val / 256 - 0) + 1 * (q.val / 128 - 0) = 32 * i.val + T.val / 256
    omega
  have hl : loc15Of (ix3 i T q) = ix3 (n0 := 1) 0 ⟨T.val % 256, by omega⟩ q := by
    funext a
    match a with
    | ⟨0, _⟩ => exact Fin.ext (Nat.mod_one _)
    | ⟨1, _⟩ => rfl
    | ⟨2, _⟩ => exact Fin.ext (Nat.mod_eq_of_lt q.isLt)
  unfold G15
  have hn := lt_of_eq_of_lt hp (ptOf i T).isLt
  rw [dif_pos hn, ← outsAt0_sweep m c _ hn, outsAt0_val m c hp hn (ptOf i T).isLt, hl]

theorem G14_apply (i : Fin 4) (h : Fin 8) (j : Fin 32) (d : Fin 80) (r : Fin 256) (T : Fin 8192) (hT : T.val = 256 * j.val + r.val) :
    G14 m c (ix5 i h j d r) = (outsAt0 m c (ptOf i T).val (ptOf i T).isLt).2.2.2.2.1 (ix5 (n0 := 1) (n2 := 1) 0 h 0 d r) := by
  have hp : pt14Of (ix5 i h j d r) = (ptOf i T).val := by
    show 32 * (i.val / 1 - 0) + 32 * (h.val / 8 - 0) + 1 * (j.val / 1 - 0) + 1 * (d.val / 80 - 0) + 1 * (r.val / 256 - 0) = 32 * i.val + T.val / 256
    omega
  have hl : loc14Of (ix5 i h j d r) = ix5 (n0 := 1) (n2 := 1) 0 h 0 d r := by
    funext a
    match a with
    | ⟨0, _⟩ => exact Fin.ext (Nat.mod_one _)
    | ⟨1, _⟩ => exact Fin.ext (Nat.mod_eq_of_lt h.isLt)
    | ⟨2, _⟩ => exact Fin.ext (Nat.mod_one _)
    | ⟨3, _⟩ => exact Fin.ext (Nat.mod_eq_of_lt d.isLt)
    | ⟨4, _⟩ => exact Fin.ext (Nat.mod_eq_of_lt r.isLt)
  unfold G14
  have hn := lt_of_eq_of_lt hp (ptOf i T).isLt
  rw [dif_pos hn, ← outsAt0_sweep m c _ hn, outsAt0_val m c hp hn (ptOf i T).isLt, hl]

theorem G16_apply (i : Fin 4) (j : Fin 32) (q : Fin 512) (T : Fin 8192) (hT : T.val / 256 = j.val) :
    G16 m c (ix4 i j 0 q) = (outsAt0 m c (ptOf i T).val (ptOf i T).isLt).2.2.2.2.2.2.1 (ix4 (n0 := 1) (n1 := 1) (n2 := 1) 0 0 0 q) := by
  have hp : pt16Of (ix4 i j 0 q) = (ptOf i T).val := by
    show 32 * (i.val / 1 - 0) + 1 * (j.val / 1 - 0) + 1 * (0 / 1 - 0) + 1 * (q.val / 512 - 0) = 32 * i.val + T.val / 256
    omega
  have hl : loc16Of (ix4 i j 0 q) = ix4 (n0 := 1) (n1 := 1) (n2 := 1) 0 0 0 q := by
    funext a
    match a with
    | ⟨0, _⟩ => exact Fin.ext (Nat.mod_one _)
    | ⟨1, _⟩ => exact Fin.ext (Nat.mod_one _)
    | ⟨2, _⟩ => rfl
    | ⟨3, _⟩ => exact Fin.ext (Nat.mod_eq_of_lt q.isLt)
  unfold G16
  have hn := lt_of_eq_of_lt hp (ptOf i T).isLt
  rw [dif_pos hn, ← outsAt0_sweep m c _ hn, outsAt0_val m c hp hn (ptOf i T).isLt, hl]

end Cert.Kernel2Ideal.InProj

end
-- ==== Proof.InValue.lean ====
/- The in-projection kernel's results over the reals, as functions of the arrays it is given. -/
module

public import proofs.«01_k».proof.Proof.InGrid

@[expose] public section

set_option maxRecDepth 16384

noncomputable section

namespace Cert.Kernel2Ideal.InProj

open Cert.InProj Cert.Kernel2Ideal Cert.Kernel2Ideal.Gen Cert.Kernel2Ideal.Value
open Idealize.ShloMosaic Idealize.ShloMosaic.TcCoe

variable (m : (ℓ : Loc nD τ sig) → Buf (Elt Ideal) ℓ) (c : Dev nD)

/-- The weights given. -/
def wIn : FVec Ideal S1024x3592 .f32 := m ((c : Thread nD τ).loc main_arg5)

/-- The entries of the kernel's arguments. -/
def insK : Ins where
  x i t k := (m ((c : Thread nD τ).loc main_arg0) : FVec Ideal S4x8192x1024 .f32) (ix3 i t k)
  pos i t := ((((m ((c : Thread nD τ).loc main_arg1) : IVec S4x8192 32) (ix2 i t)).toInt : ℝ) : EReal)
  sc i k := (m ((c : Thread nD τ).loc main_arg2) : FVec Ideal S4x1x1024 .f32) (ix3 i 0 k)
  sh i k := (m ((c : Thread nD τ).loc main_arg3) : FVec Ideal S4x1x1024 .f32) (ix3 i 0 k)
  g k := (m ((c : Thread nD τ).loc main_arg4) : FVec Ideal S1024 .f32) (ix1 k)
  w k q := wIn m c (ix2 k q)
  cw n k := (m ((c : Thread nD τ).loc main_arg6) : FVec Ideal S4x1024 .f32) (ix2 n k)
  cb k := (m ((c : Thread nD τ).loc main_arg7) : FVec Ideal S1024 .f32) (ix1 k)
  bi n := (m ((c : Thread nD τ).loc main_arg8) : FVec Ideal S4 .f32) (ix1 n)
  bf n := (m ((c : Thread nD τ).loc main_arg9) : FVec Ideal S4 .f32) (ix1 n)
  fr d := invTab (ix1 d)

/-- A vector of 1024 entries laid as one row. -/
theorem row_apply (v : FVec Ideal S1024 .f32) (k : Fin 1024) : (shapeCast S1x1024 v shapeCasts_S1024_S1x1024 : FVec Ideal S1x1024 .f32) (ix2 0 k) = v (ix1 k) := by
  pointwise

/-- Row `r` of point `t`'s block is row `T` of sequence `i`. -/
def At (t : Fin cfg0.N) (r : Fin 256) (i : Fin 4) (T : Fin 8192) : Prop := t.val / 32 = i.val ∧ t.val % 32 * 256 + r.val = T.val

variable {t : Fin cfg0.N} {r : Fin 256} {i : Fin 4} {T : Fin 8192}

/-- A normed row depends on its entries alone. -/
theorem norm_congr {x x' g g' sc sc' sh sh' : Fin 1024 → EReal} (h0 : x = x') (h1 : g = g') (h2 : sc = sc') (h3 : sh = sh') (k : Fin 1024) :
    hAt x g sc sh k = hAt x' g' sc' sh' k := by rw [h0, h1, h2, h3]

/-- The normed and modulated rows of a block. -/
theorem h_at (hA : At t r i T) (k : Fin 1024) : bH (iblk m c 0 t) (iblk m c 1 t) (iblk m c 2 t) (iblk m c 3 t) (ix2 r k) =
    hAt ((insK m c).x i T) (insK m c).g ((insK m c).sc i) ((insK m c).sh i) k := by
  obtain ⟨hi, hT⟩ := hA
  refine (pay2_apply _ _ _ _ r k).trans ?_
  have e0 : (fun k => iblk m c 0 t (ix3 (n0 := 1) 0 r k)) = (insK m c).x i T := funext fun k => by
    rw [blk_0, V_arg0]
    exact congrArg₂ (fun a b => (m ((c : Thread nD τ).loc main_arg0) : FVec Ideal S4x8192x1024 .f32) (ix3 a b k)) (Fin.ext hi) (Fin.ext hT)
  have e1 : (fun k => iblk m c 1 t (ix2 0 k)) = (insK m c).g := funext fun k => by
    rw [blk_1, V_v84]
    exact row_apply _ k
  have e2 : (fun k => iblk m c 2 t (ix3 (n0 := 1) 0 0 k)) = (insK m c).sc i := funext fun k => by
    rw [blk_2, V_arg2]
    exact congrArg (fun a => (m ((c : Thread nD τ).loc main_arg2) : FVec Ideal S4x1x1024 .f32) (ix3 a 0 k)) (Fin.ext hi)
  have e3 : (fun k => iblk m c 3 t (ix3 (n0 := 1) 0 0 k)) = (insK m c).sh i := funext fun k => by
    rw [blk_3, V_arg3]
    exact congrArg (fun a => (m ((c : Thread nD τ).loc main_arg3) : FVec Ideal S4x1x1024 .f32) (ix3 a 0 k)) (Fin.ext hi)
  exact norm_congr e0 e1 e2 e3 k

/-- A product of a block's rows with some of the weights' columns, at an entry. -/
theorem sum_at (hA : At t r i T) (n off : ℕ) (hn : off + n ≤ 3712) (q : Fin n) :
    ∑ k, bH (iblk m c 0 t) (iblk m c 1 t) (iblk m c 2 t) (iblk m c 3 t) (ix2 r k) * cols n off hn (iblk m c 4 t) (ix2 k q) =
      zAt ((insK m c).x i T) (insK m c).g ((insK m c).sc i) ((insK m c).sh i) (fun k => wT (wIn m c) (ix2 k ⟨off + q.val, by omega⟩)) := by
  unfold zAt
  refine Finset.sum_congr rfl fun k _ => ?_
  rw [h_at m c hA k, cols_apply, blk_4, V_v90]
  rfl

/-- The kernel's column and the weights' column it is a copy of. -/
def Copy (Q : ℕ) (q : Fin 3592) : Prop := (Q < 2048 ∧ q.val = Q) ∨ (2048 ≤ Q ∧ Q < 3584 ∧ q.val = Q + 8) ∨ (3584 ≤ Q ∧ Q < 3592 ∧ q.val = Q - 1536)

/-- A column of the kernel's weights is a column of the weights given. -/
theorem copy_at (w : FVec Ideal S1024x3592 .f32) (Q : Fin 3712) (q : Fin 3592) (h : Copy Q.val q) (k : Fin 1024) : wT w (ix2 k Q) = w (ix2 k q) := by
  rw [wT_apply]
  rcases h with ⟨h1, h2⟩ | ⟨h1, h2, h3⟩ | ⟨h1, h2, h3⟩
  · rw [dif_pos h1]
    exact congrArg (fun a => w (ix2 k a)) (Fin.ext h2.symm)
  · rw [dif_neg (by omega), dif_pos h2]
    exact congrArg (fun a => w (ix2 k a)) (Fin.ext h3.symm)
  · rw [dif_neg (by omega), dif_neg (by omega), dif_pos h2]
    exact congrArg (fun a => w (ix2 k a)) (Fin.ext h3.symm)

/-- Such a product is an entry of the projection. -/
theorem z_at (hA : At t r i T) (n off : ℕ) (hn : off + n ≤ 3712) (q : Fin n) (p : Fin 3592) (hp : Copy (off + q.val) p) :
    ∑ k, bH (iblk m c 0 t) (iblk m c 1 t) (iblk m c 2 t) (iblk m c 3 t) (ix2 r k) * cols n off hn (iblk m c 4 t) (ix2 k q) = (insK m c).z i T p := by
  rw [sum_at m c hA n off hn q]
  exact congrArg (zAt _ _ _ _) (funext fun k => copy_at (wIn m c) ⟨off + q.val, by omega⟩ p hp k)

/-- The columns the convolution reads are the projection's first. -/
theorem conv_cols (hA : At t r i T) (q : Fin 1024) : bC (iblk m c 0 t) (iblk m c 1 t) (iblk m c 2 t) (iblk m c 3 t) (iblk m c 4 t) (ix2 r q) = (insK m c).z i T ⟨q.val, by omega⟩ := by
  refine (pay4_apply _ _ _ _ _ r q).trans ?_
  exact z_at m c hA 1024 0 (by decide) q ⟨q.val, by omega⟩ (Or.inl ⟨by omega, by show q.val = 0 + q.val; omega⟩)

/-- The attention's columns are the projection's from 2056 on. -/
theorem attn_cols (hA : At t r i T) (q : Fin 1536) (p : Fin 3592) (hp : p.val = 2056 + q.val) :
    bA (iblk m c 0 t) (iblk m c 1 t) (iblk m c 2 t) (iblk m c 3 t) (iblk m c 4 t) (ix2 r q) = (insK m c).z i T p := by
  refine (pay13_apply _ _ r q).trans ?_
  exact z_at m c hA 1536 2048 (by decide) q p (Or.inr (Or.inl ⟨by omega, by omega, by omega⟩))

/-- A point and the row it fills. -/
theorem at_ptOf (i : Fin 4) (T : Fin 8192) : At (ptOf i T) ⟨T.val % 256, by omega⟩ i T :=
  ⟨ptOf_div i T, by rw [ptOf_mod]; show T.val / 256 * 256 + T.val % 256 = T.val; omega⟩

/-! ## The convolved queries and keys -/

/-- A row some rows back, over a block's first row where need be. -/
theorem back_at (hA : At t r i T) (n : ℕ) (h1 : 1 ≤ n) (h3 : n ≤ 3) (q : Fin 1024) :
    back n (bC (iblk m c 0 t) (iblk m c 1 t) (iblk m c 2 t) (iblk m c 3 t) (iblk m c 4 t)) (scr m c t) r q = (insK m c).past n i T ⟨q.val, by omega⟩ := by
  have ht := pt_lt t
  have hr := r.isLt
  obtain ⟨hi, hT⟩ := hA
  unfold back Ins.past
  by_cases hn : r.val < n
  · rw [if_pos hn]
    by_cases h0 : t.val % 32 = 0
    · rw [if_neg (by omega)]
      unfold scr
      rw [if_pos h0]
      exact pay3_apply _ q
    · rw [if_pos (by omega : n ≤ T.val)]
      unfold scr
      rw [if_neg h0]
      refine (pay8_apply _ _ q).trans ?_
      exact conv_cols m c ⟨by show (t.val - 1) / 32 = i.val; omega, by show (t.val - 1) % 32 * 256 + (248 + (r.val + 8 - n) % 8) = T.val - n; omega⟩ q
  · rw [if_neg hn, if_pos (by omega : n ≤ T.val)]
    exact conv_cols m c ⟨hi, by show t.val % 32 * 256 + (r.val - n) = T.val - n; omega⟩ q

theorem qk_at (i : Fin 4) (T : Fin 8192) (q : Fin 1024) : G10 m c (ix3 i T q) = (insK m c).qk i T q := by
  have hA := at_ptOf i T
  rw [G10_apply, left_10]
  unfold bQK Ins.qk Ins.conv
  rw [pay9_apply, pay5_apply, pay6_apply, pay7_apply, rowOf_apply, rowOf_apply, rowOf_apply, rowOf_apply, conv_cols m c hA,
    back_at m c hA 1 (by decide) (by decide), back_at m c hA 2 (by decide) (by decide), back_at m c hA 3 (by decide) (by decide),
    blk_5, blk_5, blk_5, blk_5, blk_6, V_arg6, V_v91, row_apply]
  rfl

/-! ## The values and the output gates -/

theorem v_at (i : Fin 4) (T : Fin 8192) (q : Fin 512) : G11 m c (ix3 i T q) = (insK m c).z i T ⟨1024 + q.val, by omega⟩ := by
  rw [G11_apply, left_11]
  refine (pay10_apply _ _ _ q).trans ?_
  exact z_at m c (at_ptOf i T) 512 1024 (by decide) q _ (Or.inl ⟨by omega, rfl⟩)

theorem o_at (i : Fin 4) (T : Fin 8192) (q : Fin 512) : G12 m c (ix3 i T q) = (insK m c).z i T ⟨1536 + q.val, by omega⟩ := by
  rw [G12_apply, left_12]
  refine (pay12_apply _ _ _ q).trans ?_
  exact z_at m c (at_ptOf i T) 512 1536 (by decide) q _ (Or.inl ⟨by omega, rfl⟩)

/-! ## The rotary queries and keys -/

theorem neg_one : cst 0xBF800000#32 = -1 := by simp [cst, Ideal.ofBits, Ideal.ieee, -EReal.coe_mul]; norm_num

theorem cos_zero : Ideal.cos 0 = 1 := by
  show ((Real.cos 0 : ℝ) : EReal) = 1
  rw [Real.cos_zero]; rfl

theorem cos_at (hA : At t r i T) (l : Fin 128) :
    k0_pay14 (iblk m c 8 t) (ix2 r l) = Ideal.cos ((insK m c).pos i T * if l.val % 64 < 16 then (insK m c).fr ⟨l.val % 64 % 8, by omega⟩ else 0) := by
  obtain ⟨hi, hT⟩ := hA
  rw [pay14_apply, blk_8, V_v70, cosT_apply, invRow_apply]
  exact congrArg₂ (fun a b => Ideal.cos (((((m ((c : Thread nD τ).loc main_arg1) : IVec S4x8192 32) (ix2 a b)).toInt : ℝ) : EReal) * if l.val % 64 < 16 then (insK m c).fr ⟨l.val % 64 % 8, by omega⟩ else 0)) (Fin.ext hi) (Fin.ext hT)

theorem sin_at (hA : At t r i T) (l : Fin 128) :
    k0_pay15 (iblk m c 9 t) (ix2 r l) = Ideal.sin ((insK m c).pos i T * if l.val % 64 < 16 then (insK m c).fr ⟨l.val % 64 % 8, by omega⟩ else 0) *
      (if l.val % 64 < 8 then cst 0xBF800000#32 else if l.val % 64 < 16 then 1 else 0) := by
  obtain ⟨hi, hT⟩ := hA
  rw [pay15_apply, blk_9, V_v74, sinT_apply, invRow_apply, signRow_apply]
  exact congrArg₂ (fun a b => Ideal.sin (((((m ((c : Thread nD τ).loc main_arg1) : IVec S4x8192 32) (ix2 a b)).toInt : ℝ) : EReal) * if l.val % 64 < 16 then (insK m c).fr ⟨l.val % 64 % 8, by omega⟩ else 0) *
    (if l.val % 64 < 8 then cst 0xBF800000#32 else if l.val % 64 < 16 then 1 else 0)) (Fin.ext hi) (Fin.ext hT)

/-- The table's frequency of a lane past the first 128. -/
theorem lane_mod (q : ℕ) : q % 128 % 64 = q % 64 := by omega

/-- A rotary entry of a block is the specification's. -/
theorem rope_at (hA : At t r i T) (q : Fin 1024) :
    ropeG (bA (iblk m c 0 t) (iblk m c 1 t) (iblk m c 2 t) (iblk m c 3 t) (iblk m c 4 t)) (k0_pay14 (iblk m c 8 t)) (k0_pay15 (iblk m c 9 t)) r q = (insK m c).rot i T q := by
  unfold ropeG Ins.rot
  rw [cos_at m c hA, sin_at m c hA, attn_cols m c hA ⟨q.val, by omega⟩ ⟨2056 + q.val, by omega⟩ rfl]
  simp only [lane_mod]
  by_cases h8 : q.val % 64 < 8
  · rw [if_pos h8, if_pos h8, if_pos h8, if_pos (by omega : q.val % 64 < 16), attn_cols m c hA _ ⟨2056 + q.val + 8, by omega⟩ (by show 2056 + q.val + 8 = 2056 + (q.val / 128 * 128 + (q.val % 128 + 8) % 128); omega),
      neg_one, mul_neg, mul_one, mul_neg, ← sub_eq_add_neg]
  · rw [if_neg h8, if_neg h8, if_neg h8]
    by_cases h16 : q.val % 64 < 16
    · rw [if_pos h16, if_pos h16, if_pos h16, attn_cols m c hA _ ⟨2056 + q.val - 8, by omega⟩ (by show 2056 + q.val - 8 = 2056 + (q.val / 128 * 128 + (q.val % 128 + 120) % 128); omega), mul_one]
    · rw [if_neg h16, if_neg h16, if_neg h16, mul_zero, mul_zero, mul_zero, cos_zero, mul_one, add_zero]

theorem rot_at (i : Fin 4) (T : Fin 8192) (q : Fin 1024) : G13 m c (ix3 i T q) = (insK m c).rot i T q := by
  rw [G13_apply, left_13]
  exact rope_at m c (at_ptOf i T) q

/-! ## The turned values, the gates, the means -/

theorem turn_at (i : Fin 4) (h : Fin 8) (j : Fin 32) (d : Fin 80) (r : Fin 256) (T : Fin 8192) (hT : T.val = 256 * j.val + r.val) :
    G14 m c (ix5 i h j d r) = (insK m c).turn i h d T := by
  rw [G14_apply m c i h j d r T hT, left_14]
  have hA : At (ptOf i T) r i T := ⟨ptOf_div i T, by rw [ptOf_mod]; omega⟩
  show turnG _ h d r = _
  unfold turnG Ins.turn
  by_cases hd : d.val < 64
  · rw [dif_pos hd, dif_pos hd]
    exact attn_cols m c hA _ _ (by show 3080 + 64 * h.val + d.val = 2056 + (1024 + 64 * h.val + d.val); omega)
  · rw [dif_neg hd, dif_neg hd]

/-- The cap of zero is zero. -/
theorem cap_zero : capAt 0 = 0 := by
  have h : Ideal.div 0 (cst 0x41700000#32) = 0 := by
    have e : cst 0x41700000#32 = ((15 : ℝ) : EReal) := by simp [cst, Ideal.ofBits, Ideal.ieee, -EReal.coe_mul]; norm_num
    rw [e, Ideal.div_coe (by norm_num), zero_mul]
  have ht : Ideal.tanh 0 = 0 := by
    show ((Real.tanh 0 : ℝ) : EReal) = 0
    rw [Real.tanh_zero]; rfl
  unfold capAt
  rw [h, ht, mul_zero]

theorem gate_at (i : Fin 4) (T : Fin 8192) (l : Fin 128) : G15 m c (ix3 i T l) = (insK m c).gate i T l := by
  have hA := at_ptOf i T
  rw [G15_apply, left_15]
  unfold bG Ins.gate
  rw [pay1_apply, blk_7, V_v83, gateB_apply]
  by_cases h4 : l.val < 4
  · rw [if_pos h4, dif_pos h4, dif_pos h4, z_at m c hA 128 3584 (by decide) l ⟨2048 + l.val, by omega⟩ (Or.inr (Or.inr ⟨by omega, by omega, by show 2048 + l.val = _; omega⟩))]
    rfl
  · rw [if_neg h4, dif_neg h4, dif_neg h4]
    by_cases h8 : l.val < 8
    · rw [dif_pos h8, dif_pos h8, z_at m c hA 128 3584 (by decide) l ⟨2048 + l.val, by omega⟩ (Or.inr (Or.inr ⟨by omega, by omega, by show 2048 + l.val = _; omega⟩))]
      rfl
    · have hz : ∀ k, wT (wIn m c) (ix2 k ⟨3584 + l.val, by omega⟩) = 0 := fun k => by
        rw [wT_apply, dif_neg (by show ¬ 3584 + l.val < 2048; omega), dif_neg (by show ¬ 3584 + l.val < 3584; omega), dif_neg (by show ¬ 3584 + l.val < 3592; omega)]
      rw [dif_neg h8, dif_neg h8, sum_at m c hA 128 3584 (by decide) l]
      unfold zAt
      rw [Finset.sum_eq_zero fun k _ => (congrArg (_ * ·) (hz k)).trans (mul_zero _), add_zero, cap_zero]

theorem mean_at (i : Fin 4) (j : Fin 32) (q : Fin 512) : G16 m c (ix4 i j 0 q) = (insK m c).mean i j q := by
  have hT : 256 * j.val < 8192 := by omega
  have hj : (256 * j.val) / 256 = j.val := by omega
  rw [G16_apply m c i j q ⟨256 * j.val, hT⟩ hj, left_16]
  show meanG _ _ _ q = _
  unfold meanG Ins.mean
  refine congrArg (fun e => Ideal.div e (cst 0x43800000#32)) (Finset.sum_congr rfl fun r _ => ?_)
  refine rope_at m c ⟨ptOf_div i _, ?_⟩ _
  rw [ptOf_mod]
  show 256 * j.val / 256 * 256 + r.val = 256 * j.val + r.val
  omega

end Cert.Kernel2Ideal.InProj

end
-- ==== Proof.InSame.lean ====
/- The in-projection kernel's results are its reference's, over the reals. -/
module

public import proofs.«01_k».proof.Defs
public import proofs.«01_k».proof.Proof.InRef
public import proofs.«01_k».proof.Proof.InValue
public import proofs.«01_k».proof.Proof.Gen.Kernel2Ideal
public import proofs.«01_k».proof.Proof.Gen.Reference2Ideal

@[expose] public section

set_option maxRecDepth 16384

noncomputable section

namespace Cert.InProj

open Idealize.ShloMosaic Idealize.ShloMosaic.TcCoe Idealize.ShloMosaic.StableHlo Idealize.SL.Sem
open Cert.Kernel2Ideal.InProj Cert.Reference2Ideal.InProj

/-- Two sets of entries that agree everywhere are one. -/
theorem Ins.same {A B : Ins} (hx : ∀ i t k, A.x i t k = B.x i t k) (hpos : ∀ i t, A.pos i t = B.pos i t) (hsc : ∀ i k, A.sc i k = B.sc i k)
    (hsh : ∀ i k, A.sh i k = B.sh i k) (hg : ∀ k, A.g k = B.g k) (hw : ∀ k q, A.w k q = B.w k q) (hcw : ∀ n k, A.cw n k = B.cw n k)
    (hcb : ∀ k, A.cb k = B.cb k) (hbi : ∀ n, A.bi n = B.bi n) (hbf : ∀ n, A.bf n = B.bf n) (hfr : ∀ d, A.fr d = B.fr d) : A = B := by
  obtain ⟨x, pos, sc, sh, g, w, cw, cb, bi, bf, fr⟩ := A
  obtain ⟨x', pos', sc', sh', g', w', cw', cb', bi', bf', fr'⟩ := B
  rw [Ins.mk.injEq]
  exact ⟨funext fun i => funext fun t => funext (hx i t), funext fun i => funext (hpos i), funext fun i => funext (hsc i), funext fun i => funext (hsh i),
    funext hg, funext fun k => funext (hw k), funext fun n => funext (hcw n), funext hcb, funext hbi, funext hbf, funext hfr⟩

set_option maxHeartbeats 1000000 in
/-- Over the reals the in-projection's kernel ends with the reference's results. -/
theorem algebraic : Cert.algebraic_Kernel2Ideal_Reference2Ideal := fun m g m' g' _ ha => by
  refine ⟨fun c => Cert.Kernel2Ideal.Value.G10 m c, fun c => Cert.Kernel2Ideal.Value.G11 m c, fun c => Cert.Kernel2Ideal.Value.G12 m c, fun c => Cert.Kernel2Ideal.Value.G13 m c,
    fun c => Cert.Kernel2Ideal.Value.G14 m c, fun c => Cert.Kernel2Ideal.Value.G15 m c, fun c => Cert.Kernel2Ideal.Value.G16 m c, Cert.Kernel2Ideal.Value.run (F := Ideal) m g, ?_⟩
  refine (θ_run Cert.Reference2Ideal.defs _ _).mono (fun r h c => ?_) (Cert.Reference2Ideal.Value.run (F := Ideal) m' g')
  obtain ⟨r0, r1, r2, r3, r4, r5, r6, rest⟩ := h c
  obtain rfl : c = 0 := Subsingleton.elim _ _
  obtain ⟨h0, h1, h2, h3, h4, h5, h6, h7, h8, h9⟩ := ha 0
  have e : ins (launchContents m' 0) = insK m 0 := Ins.same (fun i t k => congrFun h0 (ix3 i t k))
    (fun i t => congrArg (fun b : BitVec 32 => ((b.toInt : ℝ) : EReal)) (congrFun h1 (ix2 i t))) (fun i k => congrFun h2 (ix3 i 0 k)) (fun i k => congrFun h3 (ix3 i 0 k))
    (fun k => congrFun h4 (ix1 k)) (fun k q => congrFun h5 (ix2 k q)) (fun n k => congrFun h6 (ix2 n k)) (fun k => congrFun h7 (ix1 k))
    (fun n => congrFun h8 (ix1 n)) (fun n => congrFun h9 (ix1 n)) (fun _ => rfl)
  refine ⟨r0.trans (funext fun y => ?_), r1.trans (funext fun y => ?_), r2.trans (funext fun y => ?_), r3.trans (funext fun y => ?_),
    r4.trans (funext fun y => ?_), r5.trans (funext fun y => ?_), r6.trans (funext fun y => ?_), rest⟩
  · obtain ⟨i, t, q, rfl⟩ : ∃ (i : Fin 4) (t : Fin 8192) (q : Fin 1024), y = ix3 i t q := ⟨_, _, _, eq_ix3 y⟩
    exact (qk_apply _ i t q).trans ((congrArg (fun A : Ins => A.qk i t q) e).trans (qk_at m 0 i t q).symm)
  · obtain ⟨i, t, q, rfl⟩ : ∃ (i : Fin 4) (t : Fin 8192) (q : Fin 512), y = ix3 i t q := ⟨_, _, _, eq_ix3 y⟩
    exact (v_apply _ i t q).trans ((congrArg (fun A : Ins => A.z i t ⟨1024 + q.val, by omega⟩) e).trans (v_at m 0 i t q).symm)
  · obtain ⟨i, t, q, rfl⟩ : ∃ (i : Fin 4) (t : Fin 8192) (q : Fin 512), y = ix3 i t q := ⟨_, _, _, eq_ix3 y⟩
    exact (o_apply _ i t q).trans ((congrArg (fun A : Ins => A.z i t ⟨1536 + q.val, by omega⟩) e).trans (o_at m 0 i t q).symm)
  · obtain ⟨i, t, q, rfl⟩ : ∃ (i : Fin 4) (t : Fin 8192) (q : Fin 1024), y = ix3 i t q := ⟨_, _, _, eq_ix3 y⟩
    exact (rot_apply _ i t q).trans ((congrArg (fun A : Ins => A.rot i t q) e).trans (rot_at m 0 i t q).symm)
  · obtain ⟨i, b, j, d, s, rfl⟩ : ∃ (i : Fin 4) (b : Fin 8) (j : Fin 32) (d : Fin 80) (s : Fin 256), y = ix5 i b j d s := ⟨_, _, _, _, _, eq_ix5 y⟩
    have hT : 256 * j.val + s.val < 8192 := by omega
    exact (turn_apply _ i b j d s ⟨_, hT⟩ rfl).trans ((congrArg (fun A : Ins => A.turn i b d ⟨_, hT⟩) e).trans (turn_at m 0 i b j d s ⟨_, hT⟩ rfl).symm)
  · obtain ⟨i, t, l, rfl⟩ : ∃ (i : Fin 4) (t : Fin 8192) (l : Fin 128), y = ix3 i t l := ⟨_, _, _, eq_ix3 y⟩
    exact (gate_apply _ i t l).trans ((congrArg (fun A : Ins => A.gate i t l) e).trans (gate_at m 0 i t l).symm)
  · obtain ⟨i, j, u, q, rfl⟩ : ∃ (i : Fin 4) (j : Fin 32) (u : Fin 1) (q : Fin 512), y = ix4 i j u q := ⟨_, _, _, _, eq_ix4 y⟩
    obtain rfl : u = 0 := Subsingleton.elim _ _
    exact (mean_apply _ i j q).trans ((congrArg (fun A : Ins => A.mean i j q) e).trans (mean_at m 0 i j q).symm)

end Cert.InProj

end
-- ==== Proof.Host.lean ====
module

public import proofs.«01_k».proof.Proof.Gen.KernelIdeal.Launch
public import Idealize.ShloMosaic.Lib.StableHlo.RunRead
public import Idealize.ShloMosaic.Lib.StableHlo.ReadAt

@[expose] public section

set_option maxRecDepth 16384

noncomputable section

namespace Cert.KernelIdeal.Experts

open Cert.KernelIdeal Cert.KernelIdeal.Gen Cert.KernelIdeal.Facts
open Idealize.ShloMosaic Idealize.ShloMosaic.TcCoe

/-! ## The tables as functions of the counts -/

/-- The number of blocks of 512 slots of each expert. -/
def nBlk (x : IVec S32 32) : IVec S32 32 :=
  let b : IVec S32 32 := subi (addi x (broadcastInDim S32 ![] bcast_S_S32 (constantI S_ 32 512#32))) (broadcastInDim S32 ![] bcast_S_S32 (constantI S_ 32 1#32))
  let k : IVec S32 32 := broadcastInDim S32 ![] bcast_S_S32 (constantI S_ 32 512#32)
  let q : IVec S32 32 := Host.divsi b k
  select (andi (cmpi .ne (signi b) (broadcastInDim S32 ![] bcast_S_S32 (signi (constantI S_ 32 512#32))))
      (cmpi .ne (Host.remsi b k) (broadcastInDim S32 ![] bcast_S_S32 (constantI S_ 32 0#32))))
    (subi q (broadcastInDim S32 ![] bcast_S_S32 (constantI S_ 32 1#32))) q

/-- Where each expert's blocks end. -/
def blkEnd (x : IVec S32 32) : IVec S32 32 :=
  Host.reduceWindow IntOp.addi ![32] ![1] ![31] ![0] (nBlk x) (broadcastInDim S_ ![] bcast_S_S_ (constantI S_ 32 0#32))
    reduceWindows_S32_S32_w32s1p31_0 h_S_

/-- The number of blocks in use. -/
def nUsed (x : IVec S32 32) : IVec S1 32 := extractStridedSlice S1 ![31] (blkEnd x) slices_S32_S1_31

/-- The block of slots read at each grid point. -/
def blockI (x : IVec S32 32) : IVec S288 32 :=
  minsi (iotaInDim S288 32 0)
    (broadcastInDim S288 ![] bcast_S_S288 (subi (shapeCast S_ (nUsed x) shapeCasts_S1_S_) (constantI S_ 32 1#32)))

/-- The expert of a table of blocks: how many experts end at or before the block, at most 31. -/
def expertOf (e : IVec S32 32) (b : IVec S288 32) : IVec S288 32 :=
  minsi (Host.reduce IntOp.addi
      (extui 32 (cmpi .sle (broadcastInDim S288x32 ![0, 1] bcast_S1x32_S288x32_0_1 (broadcastInDim S1x32 ![1] bcast_S32_S1x32_1 e))
        (broadcastInDim S288x32 ![0, 1] bcast_S288x1_S288x32_0_1 (broadcastInDim S288x1 ![0] bcast_S288_S288x1_0 b))) natLt_1_32)
      (constantI S_ 32 0#32) reducesTo_S288x32_S288_d1 h_S_)
    (broadcastInDim S288 ![] bcast_S_S288 (constantI S_ 32 31#32))

/-- The expert whose weights each grid point reads. -/
def blockE (x : IVec S32 32) : IVec S288 32 := expertOf (blkEnd x) (blockI x)

variable {F : FTy → Type} [FloatOps F]
variable (m : (ℓ : Loc nD τ sig) → Buf (Elt F) ℓ)

/-! ## The buffers when the kernel is entered -/

/-- The three stretches of host operations before the kernel. -/
abbrev prefixes : List (List (HloOp τ sig (Elt F))) := [hostOps0, hostOps0_1, hostOps0_2]

/-- What a buffer of core `c` holds when the kernel is entered. -/
def V (c : Dev nD) (b : Ref sig .tc) : Buf (Elt F) ((c : Thread nD τ).loc b) :=
  StableHlo.after (prefixes (F := F)).flatten (fun b => m (c, b)) (Proc.devRef .tc b)

attribute [local irreducible] Host.reduceWindow Host.reduce Host.divsi Host.remsi signi

theorem V_v33 (c : Dev nD) : V m c main_v33 = blockE (m ((c : Thread nD τ).loc main_arg0)) := by
  unfold V
  simp only [List.flatten_cons, List.flatten_nil, List.cons_append, List.nil_append, List.append_nil]
  after_reads_simp
  simp only [StableHlo.TRef.toBuf, StableHlo.TRef.ofBuf, cast_eq, blockE, expertOf, blockI, nUsed, blkEnd, nBlk]
  rfl

theorem V_v24 (c : Dev nD) : V m c main_v24 = blockI (m ((c : Thread nD τ).loc main_arg0)) := by
  unfold V
  simp only [List.flatten_cons, List.flatten_nil, List.cons_append, List.nil_append, List.append_nil]
  after_reads_simp
  simp only [StableHlo.TRef.toBuf, StableHlo.TRef.ofBuf, cast_eq, blockE, expertOf, blockI, nUsed, blkEnd, nBlk]
  rfl

theorem V_v19 (c : Dev nD) : V m c main_v19 = nUsed (m ((c : Thread nD τ).loc main_arg0)) := by
  unfold V
  simp only [List.flatten_cons, List.flatten_nil, List.cons_append, List.nil_append, List.append_nil]
  after_reads_simp
  simp only [StableHlo.TRef.toBuf, StableHlo.TRef.ofBuf, cast_eq, blockE, expertOf, blockI, nUsed, blkEnd, nBlk]

theorem V_v34 (c : Dev nD) : V m c main_v34 = shapeCast S2x32x1x1024 (m ((c : Thread nD τ).loc main_arg3) : FVec F S2x32x1024 .f32) shapeCasts_S2x32x1024_S2x32x1x1024 := by
  unfold V
  simp only [List.flatten_cons, List.flatten_nil, List.cons_append, List.nil_append, List.append_nil]
  after_reads_simp
  rfl

theorem V_v35 (c : Dev nD) : V m c main_v35 = shapeCast S2x32x1x1024 (m ((c : Thread nD τ).loc main_arg5) : FVec F S2x32x1024 .f32) shapeCasts_S2x32x1024_S2x32x1x1024 := by
  unfold V
  simp only [List.flatten_cons, List.flatten_nil, List.cons_append, List.nil_append, List.append_nil]
  after_reads_simp
  rfl

theorem V_v36 (c : Dev nD) : V m c main_v36 = shapeCast S2x32x1x1024 (m ((c : Thread nD τ).loc main_arg7) : FVec F S2x32x1024 .f32) shapeCasts_S2x32x1024_S2x32x1x1024 := by
  unfold V
  simp only [List.flatten_cons, List.flatten_nil, List.cons_append, List.nil_append, List.append_nil]
  after_reads_simp
  rfl

theorem V_arg0 (c : Dev nD) : V m c main_arg0 = m ((c : Thread nD τ).loc main_arg0) := by
  unfold V
  simp only [List.flatten_cons, List.flatten_nil, List.cons_append, List.nil_append, List.append_nil]
  after_reads_simp

theorem V_arg1 (c : Dev nD) : V m c main_arg1 = m ((c : Thread nD τ).loc main_arg1) := by
  unfold V
  simp only [List.flatten_cons, List.flatten_nil, List.cons_append, List.nil_append, List.append_nil]
  after_reads_simp

theorem V_arg2 (c : Dev nD) : V m c main_arg2 = m ((c : Thread nD τ).loc main_arg2) := by
  unfold V
  simp only [List.flatten_cons, List.flatten_nil, List.cons_append, List.nil_append, List.append_nil]
  after_reads_simp

theorem V_arg3 (c : Dev nD) : V m c main_arg3 = m ((c : Thread nD τ).loc main_arg3) := by
  unfold V
  simp only [List.flatten_cons, List.flatten_nil, List.cons_append, List.nil_append, List.append_nil]
  after_reads_simp

theorem V_arg4 (c : Dev nD) : V m c main_arg4 = m ((c : Thread nD τ).loc main_arg4) := by
  unfold V
  simp only [List.flatten_cons, List.flatten_nil, List.cons_append, List.nil_append, List.append_nil]
  after_reads_simp

theorem V_arg5 (c : Dev nD) : V m c main_arg5 = m ((c : Thread nD τ).loc main_arg5) := by
  unfold V
  simp only [List.flatten_cons, List.flatten_nil, List.cons_append, List.nil_append, List.append_nil]
  after_reads_simp

theorem V_arg6 (c : Dev nD) : V m c main_arg6 = m ((c : Thread nD τ).loc main_arg6) := by
  unfold V
  simp only [List.flatten_cons, List.flatten_nil, List.cons_append, List.nil_append, List.append_nil]
  after_reads_simp

theorem V_arg7 (c : Dev nD) : V m c main_arg7 = m ((c : Thread nD τ).loc main_arg7) := by
  unfold V
  simp only [List.flatten_cons, List.flatten_nil, List.cons_append, List.nil_append, List.append_nil]
  after_reads_simp

end Cert.KernelIdeal.Experts

end
-- ==== Proof.Tables.lean ====
module

public import proofs.«01_k».proof.Proof.Host
public import Idealize.ShloMosaic.Lib.WordArith
public import Idealize.ShloMosaic.Lib.Affine
public import Idealize.ShloMosaic.PureOps.Reduce

@[expose] public section

set_option maxRecDepth 16384

noncomputable section

namespace Cert.KernelIdeal.Experts

open Cert.KernelIdeal Cert.KernelIdeal.Gen Cert.KernelIdeal.Facts
open Idealize.ShloMosaic Idealize.ShloMosaic.TcCoe

/-! ## Bounds on the tables -/

/-- Summing words that are zero or one counts at most the number of terms. -/
theorem toNat_foldl_addi_le {α : Type} (f : α → BitVec 32) (hf : ∀ a, (f a).toNat ≤ 1) (l : List α) (b : BitVec 32) :
    (l.foldl (fun r a => IntOp.addi r (f a)) b).toNat ≤ b.toNat + l.length := by
  induction l generalizing b with
  | nil => simp
  | cons a l ih =>
    refine (ih _).trans ?_
    have h1 : (IntOp.addi b (f a)).toNat ≤ b.toNat + (f a).toNat := by
      show (b + f a).toNat ≤ _
      rw [BitVec.toNat_add]; exact Nat.mod_le _ _
    have := hf a
    simp only [List.length_cons]; omega

/-- Every entry of an expert table names one of the 32 experts. -/
theorem expertOf_toNat_lt (e : IVec S32 32) (b : IVec S288 32) (y : S288.Idx) : (expertOf e b y).toNat < 32 := by
  unfold expertOf
  show (IntOp.minsi (Host.reduce _ _ _ _ _ y) 31#32).toNat < 32
  rw [Host.reduce_eq_foldl]
  rw [WordArith.toNat_minsi_of_lt _ _ ?_ (by decide)]
  · exact lt_of_le_of_lt (min_le_right _ _) (by decide)
  · refine lt_of_le_of_lt (toNat_foldl_addi_le _ (fun a => ?_) _ _) ?_
    · show ((IntOp.cmpi _ _ _).setWidth 32).toNat ≤ 1
      generalize IntOp.cmpi _ _ _ = w
      revert w; decide
    · refine lt_of_le_of_lt (Nat.add_le_add_left (List.length_filter_le _ _) _) ?_
      rw [List.length_map, List.length_finRange]
      show (0#32 : BitVec 32).toNat + S288x32.numel < 2 ^ 31
      rw [show S288x32.numel = 9216 from by decide]; decide

/-- An expert table at one entry depends on the table of blocks at that entry only. -/
theorem expertOf_congr (e : IVec S32 32) (b b' : IVec S288 32) (y : S288.Idx) (h : b y = b' y) :
    expertOf e b y = expertOf e b' y := by
  unfold expertOf
  show IntOp.minsi (Host.reduce _ _ _ _ _ y) _ = IntOp.minsi (Host.reduce _ _ _ _ _ y) _
  rw [Host.reduce_eq_foldl, Host.reduce_eq_foldl]
  congr 1
  apply List.foldl_ext
  intro r i hi
  have hd := (List.mem_filter.1 hi).2
  have hd : reducesTo_S288x32_S288_d1.drop i = y := by simpa using hd
  congr 1
  show (IntOp.cmpi _ _ (b _)).setWidth 32 = (IntOp.cmpi _ _ (b' _)).setWidth 32
  have : ∀ z : S288.Idx, z = y → b z = b' z := fun z hz => hz ▸ h
  congr 2
  apply this
  rw [← hd]
  funext a
  fin_cases a
  rfl

/-- The one index of a table of one word. -/
abbrev ix1 : S1.Idx := fun | 0 => (⟨0, by decide⟩ : Fin 1) | ⟨_ + 1, h⟩ => absurd h (Nat.not_lt.2 (Nat.le_add_left _ _))

/-- The number of blocks in use, as a word. -/
def nb (x : IVec S32 32) : BitVec 32 := nUsed x ix1

theorem nUsed_eq (x : IVec S32 32) (z : S1.Idx) : nUsed x z = nb x := by
  unfold nb; congr 1; funext a
  have h1 : ∀ a : Fin 1, S1.size a = 1 := by decide
  have h := (z a).isLt
  have h' := (ix1 a).isLt
  have := h1 a
  exact Fin.ext (by omega)

/-- The block read at a grid point, where some block is in use: the point itself, or the last block in use. -/
theorem blockI_toNat (x : IVec S32 32) (h : 1 ≤ (nb x).toInt) (y : S288.Idx) :
    (blockI x y).toNat = min (y 0).val ((nb x).toNat - 1) := by
  have hy : (y 0).val < 288 := (y 0).isLt
  have e : blockI x y = IntOp.minsi (BitVec.ofNat 32 (y 0).val) (nb x - 1#32) := by
    unfold blockI
    show IntOp.minsi (BitVec.ofNat 32 (y 0).val) (nUsed x _ - 1#32) = _
    rw [nUsed_eq]
  have hn := (nb x).isLt
  have hc := BitVec.toInt_eq_toNat_cond (nb x)
  have hs : (nb x - 1#32).toNat = (nb x).toNat - 1 := by
    rw [BitVec.toNat_sub]; split at hc <;> norm_num <;> omega
  rw [e, WordArith.toNat_minsi_of_lt, hs]
  · congr 1; rw [BitVec.toNat_ofNat]; omega
  · rw [BitVec.toNat_ofNat]; omega
  · rw [hs]; split at hc <;> omega

theorem blockI_lt (x : IVec S32 32) (h : 1 ≤ (nb x).toInt) (y : S288.Idx) : (blockI x y).toNat < 288 := by
  rw [blockI_toNat x h]; exact lt_of_le_of_lt (min_le_left _ _) (y 0).isLt

/-- At a block in use the block read is the point itself. -/
theorem blockI_eq (x : IVec S32 32) (h : 1 ≤ (nb x).toInt) (y : S288.Idx) (hy : ((y 0).val : ℤ) < (nb x).toInt) :
    blockI x y = BitVec.ofNat 32 (y 0).val := by
  have hl : (y 0).val < 288 := (y 0).isLt
  have hc := BitVec.toInt_eq_toNat_cond (nb x)
  have hn := (nb x).isLt
  apply BitVec.eq_of_toNat_eq
  rw [blockI_toNat x h, BitVec.toNat_ofNat]
  split at hc <;> omega

/-! ## The kernel's decisions -/

theorem toInt_point (i : grid0.Coords) : (BitVec.ofNat 32 (i 0).val).toInt = ((i 0).val : ℤ) := by
  have hi : (i 0).val < 288 := (i 0).isLt
  rw [BitVec.toInt_eq_toNat_cond, BitVec.toNat_ofNat]
  split <;> omega

theorem extui_ne_zero (w : BitVec 1) : Scalar.cmpi .ne (Scalar.extui w) 0#32 = 1#1 ↔ w = 1#1 := by
  revert w; decide

/-- The experts' products are computed at the points below the number of blocks in use. -/
theorem cond2_iff (i : grid0.Coords) (v : BitVec 32) : k0_cond2 i v = 1#1 ↔ ((i 0).val : ℤ) < v.toInt := by
  unfold k0_cond2
  simp only [extui_ne_zero]
  rw [Scalar.cmpi, IntOp.cmpi_slt, toInt_point]

/-- Zeros are stored at the others. -/
theorem cond3_iff (i : grid0.Coords) (v : BitVec 32) : k0_cond3 i v = 1#1 ↔ v.toInt ≤ ((i 0).val : ℤ) := by
  unfold k0_cond3
  simp only [extui_ne_zero]
  rw [Scalar.cmpi, IntOp.cmpi_sge, toInt_point]

/-- The decision whether to cast the weights again, as the kernel computes it of the experts at a point and before it. -/
def reload (i : grid0.Coords) (v2 v6 : BitVec 32) : BitVec 1 :=
  Scalar.cmpi .ne (Scalar.extui (Scalar.ori (Scalar.cmpi .eq (BitVec.ofNat 32 (i 0).val) 0#32) (Scalar.cmpi .ne v2 v6))) 0#32

/-- The weights are cast again at the first point and where the expert changes. -/
theorem reload_iff (i : grid0.Coords) (v2 v6 : BitVec 32) : reload i v2 v6 = 1#1 ↔ (i 0).val = 0 ∨ v2 ≠ v6 := by
  have hi : (i 0).val < 288 := (i 0).isLt
  unfold reload
  rw [extui_ne_zero, Scalar.ori, IntOp.ori_eq_one, Scalar.cmpi, Scalar.cmpi, IntOp.cmpi_eq, IntOp.cmpi_ne]
  refine or_congr_left ⟨fun h => ?_, fun h => by rw [h]⟩
  have := congrArg BitVec.toNat h
  rw [BitVec.toNat_ofNat] at this
  simp only [BitVec.toNat_ofNat, Nat.zero_mod] at this
  omega

theorem off1_val (i : grid0.Coords) : k0_off1 i = ![(i 0).val] := by
  have hi : (i 0).val < 288 := (i 0).isLt
  unfold k0_off1
  simp only [Scalar.indexCast, BitVec.toNat_ofNat]
  congr 1; omega

theorem off2_val (i : grid0.Coords) : k0_off2 i = ![(i 0).val - 1] := by
  have hi : (i 0).val < 288 := (i 0).isLt
  unfold k0_off2
  simp only [Scalar.indexCast]
  congr 1
  generalize (i 0).val = n at hi
  revert n; decide

end Cert.KernelIdeal.Experts

end
-- ==== Proof.Body.lean ====
module

public import proofs.«01_k».proof.Proof.Tables
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Kit
public import Idealize.ShloMosaic.Lib.Pipeline.Quiescent
public import Idealize.ShloMosaic.Lib.VecWindow
public import Idealize.ShloMosaic.Lib.Ring
public import Idealize.ShloMosaic.Lib.Tactic
public import Idealize.ShloMosaic.Lib.WordCmp
public import Idealize.ShloMosaic.Lib.Writes
public import Idealize.ShloMosaic.Lib.Exec

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word a table of 288 words gives at an offset. -/
abbrev wordAt (T : S288.Idx → BitVec 32) (off : Fin 1 → Nat) (h : ∀ a, off a + S1.size a ≤ S288.size a) : BitVec 32 :=
  View.readAt (Elt F) (Memref.whole main_v33 : Memref sig .tc .smem S288 .i32).view (Rect.unit (s := S288) off S1.size h).toLoadRect T
    (Shape.Idx.first (numel1_S1.symm ▸ Nat.one_pos))

/-- The word of a table of one word. -/
abbrev wordOf (T : S1.Idx → BitVec 32) : BitVec 32 :=
  View.readAt (Elt F) (Memref.whole main_v19 : Memref sig .tc .smem S1 .i32).view (Rect.unit (s := S1) ![0] S1.size inb_S1_S1_0).toLoadRect T
    (Shape.Idx.first (numel1_S1.symm ▸ Nat.one_pos))

/-- The condition under which a grid point casts the weights: the first point, or an expert unlike the point before. -/
def loadCond (i : grid0.Coords) (T : S288.Idx → BitVec 32) : BitVec 1 :=
  Scalar.cmpi .ne (Scalar.extui (Scalar.ori (Scalar.cmpi .eq (BitVec.ofNat 32 (i 0).val) 0#32)
    (Scalar.cmpi .ne (wordAt (F := F) T (k0_off1 i) (k0_off1_inb i)) (wordAt (F := F) T (k0_off2 i) (k0_off2_inb i))))) 0#32

/-- What a grid point leaves in the output's block: the expert's network of the block of slots, or zeros. -/
def outBlk (i : grid0.Coords) (n : BitVec 32) (x0 : Vec F S512x1024 .f32) (x1 : Vec F S1x1x1024x1024 .f32) (x2 : Vec F S1x1x1x1024 .f32) (x3 : Vec F S1x1x1024x1024 .f32) (x4 : Vec F S1x1x1x1024 .f32) (x5 : Vec F S1x1x1024x1024 .f32) (x6 : Vec F S1x1x1x1024 .f32) : Vec F S512x1024 .f32 :=
  if k0_cond2 i n = 1#1 then k0_pay4 (k0_pay6 x0 (k0_pay1 x1) x2 (k0_pay2 x3) x4) (k0_pay3 x5) x6 else k0_pay5

theorem outBlk_used {i : grid0.Coords} {n : BitVec 32} (h : k0_cond2 i n = 1#1) {x0 y0 : Vec F S512x1024 .f32} {x1 x3 x5 : Vec F S1x1x1024x1024 .f32}
    {x2 y2 x4 y4 x6 y6 : Vec F S1x1x1x1024 .f32} {w0 w1 w2 : Vec F S1024x1024 .bf16} (h0 : y0 = x0) (h1 : w0 = k0_pay1 x1) (h2 : y2 = x2)
    (h3 : w1 = k0_pay2 x3) (h4 : y4 = x4) (h5 : w2 = k0_pay3 x5) (h6 : y6 = x6) :
    k0_pay4 (k0_pay6 y0 w0 y2 w1 y4) w2 y6 = outBlk i n x0 x1 x2 x3 x4 x5 x6 := by
  subst h0 h1 h2 h3 h4 h5 h6; exact (if_pos h).symm

theorem outBlk_unused {i : grid0.Coords} {n : BitVec 32} (h : ¬ k0_cond2 i n = 1#1) {x0 : Vec F S512x1024 .f32} {x1 x3 x5 : Vec F S1x1x1024x1024 .f32}
    {x2 x4 x6 : Vec F S1x1x1x1024 .f32} : k0_pay5 = outBlk i n x0 x1 x2 x3 x4 x5 x6 := (if_neg h).symm

set_option maxHeartbeats 2000000 in
/-- What a grid point does: it casts the weights when its expert is new, and writes the block of the output. -/
theorem body (c : Dev nD) (i : grid0.Coords) (arg4 : Memref sig .tc .vmem S512x1024 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (T0 T1 : S288.Idx → BitVec 32) (T2 : S1.Idx → BitVec 32)
    (x0 : Vec F S512x1024 .f32) (x1 : Vec F S1x1x1024x1024 .f32) (x2 : Vec F S1x1x1x1024 .f32) (x3 : Vec F S1x1x1024x1024 .f32) (x4 : Vec F S1x1x1x1024 .f32) (x5 : Vec F S1x1x1024x1024 .f32) (x6 : Vec F S1x1x1x1024 .f32) (s0 s1 s2 : Vec F S1024x1024 .bf16)
    (hs : ¬ loadCond (F := F) i T0 = 1#1 → s0 = k0_pay1 x1 ∧ s1 = k0_pay2 x3 ∧ s2 = k0_pay3 x5) (K : PUnit → sProp 𝕄) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (arg9.view.loc (c : Thread nD τ) ↦[arg9.view.set]{fullShare} arg9.view.rep x5)
        ∗ (arg10.view.loc (c : Thread nD τ) ↦[arg10.view.set]{fullShare} arg10.view.rep x6)
        ∗ ((Memref.whole main_v33 : Memref sig .tc .smem S288 .i32).view.loc (c : Thread nD τ) ↦{fullShare.right} T0)
        ∗ ((Memref.whole main_v24 : Memref sig .tc .smem S288 .i32).view.loc (c : Thread nD τ) ↦{fullShare.right} T1)
        ∗ ((Memref.whole main_v19 : Memref sig .tc .smem S1 .i32).view.loc (c : Thread nD τ) ↦{fullShare.right} T2)
        ∗ (∃ d, owns (c : Thread nD τ) arg11 fullShare d)
        ∗ owns (c : Thread nD τ) arg12 fullShare s0
        ∗ owns (c : Thread nD τ) arg13 fullShare s1
        ∗ owns (c : Thread nD τ) arg14 fullShare s2
        ∗ (iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (arg9.view.loc (c : Thread nD τ) ↦[arg9.view.set]{fullShare} arg9.view.rep x5)
        ∗ (arg10.view.loc (c : Thread nD τ) ↦[arg10.view.set]{fullShare} arg10.view.rep x6)
        ∗ ((Memref.whole main_v33 : Memref sig .tc .smem S288 .i32).view.loc (c : Thread nD τ) ↦{fullShare.right} T0)
        ∗ ((Memref.whole main_v24 : Memref sig .tc .smem S288 .i32).view.loc (c : Thread nD τ) ↦{fullShare.right} T1)
        ∗ ((Memref.whole main_v19 : Memref sig .tc .smem S1 .i32).view.loc (c : Thread nD τ) ↦{fullShare.right} T2)
        ∗ owns (c : Thread nD τ) arg11 fullShare (outBlk i (wordOf (F := F) T2) x0 x1 x2 x3 x4 x5 x6)
        ∗ owns (c : Thread nD τ) arg12 fullShare (k0_pay1 x1)
        ∗ owns (c : Thread nD τ) arg13 fullShare (k0_pay2 x3)
        ∗ owns (c : Thread nD τ) arg14 fullShare (k0_pay3 x5)) -∗ K ⟨⟩))
      ⊢ wp frame (wpE (defs₀ (F := F)) Variants.none c none) Set.univ (cc0_moe_experts i (Memref.whole main_v33) (Memref.isWhole_whole _) (Memref.whole main_v24) (Memref.isWhole_whole _) (Memref.whole main_v19) (Memref.isWhole_whole _) arg4 harg4 arg5 harg5 arg6 harg6 arg7 harg7 arg8 harg8 arg9 harg9 arg10 harg10 arg11 harg11 arg12 harg12 arg13 harg13 arg14 harg14) K := by
  have hz : k0_cond3 i (wordOf (F := F) T2) = 1#1 ↔ ¬ k0_cond2 i (wordOf (F := F) T2) = 1#1 := by
    rw [cond3_iff, cond2_iff]; exact not_lt.symm
  rw [cc0_moe_experts_eq_skeleton]; unfold cc0_moe_experts_skel
  unfold owns
  iintro ⟨H0, H1, H2, H3, H4, H5, H6, HT0, HT1, HT2, ⟨%d7, %f7, -, HO⟩, ⟨%g0, %hg0, HS0⟩, ⟨%g1, %hg1, HS1⟩, ⟨%g2, %hg2, HS2⟩, Hk⟩
  obtain rfl := harg12.eq_unread hg0; obtain rfl := harg13.eq_unread hg1; obtain rfl := harg14.eq_unread hg2
  have hT0 : (Memref.whole main_v33 : Memref sig .tc .smem S288 .i32).IsWhole := Memref.isWhole_whole _
  have hT1 : (Memref.whole main_v24 : Memref sig .tc .smem S288 .i32).IsWhole := Memref.isWhole_whole _
  have hT2 : (Memref.whole main_v19 : Memref sig .tc .smem S1 .i32).IsWhole := Memref.isWhole_whole _
  have hs' : loadCond (F := F) i T0 = 1#1 ∨ ¬ loadCond (F := F) i T0 = 1#1 ∧ s0 = k0_pay1 x1 ∧ s1 = k0_pay2 x3 ∧ s2 = k0_pay3 x5 :=
    (Classical.em _).imp_right fun h => ⟨h, hs h⟩
  rcases hs' with hr | ⟨hr, rfl, rfl, rfl⟩ <;> by_cases hu : k0_cond2 i (wordOf (F := F) T2) = 1#1
  all_goals
    unfold loadCond at hr
    have hz' := hz
    simp only [hu, not_true_eq_false, iff_false, not_false_eq_true, iff_true] at hz'
    sl_exec! (disch := first | exact hr | exact hu | exact hz')
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    isplitl [HO]
    · iexists _; isplitr; swap; · iexact HO
      ipureintro
      refine (View.read_writes_full _ _ _ _ _).trans ?_
      first
      | (guard_hyp hu : ¬ (_ = _)
         exact outBlk_unused hu)
      | (guard_hyp hr : ¬ (_ = _)
         exact outBlk_used hu (View.readAt_rep_full _ _ _) ((View.readAt_full _ _ _).trans (Memref.IsWhole.read_unread _ _)) (View.readAt_rep_full _ _ _) ((View.readAt_full _ _ _).trans (Memref.IsWhole.read_unread _ _)) (View.readAt_rep_full _ _ _) ((View.readAt_full _ _ _).trans (Memref.IsWhole.read_unread _ _)) (View.readAt_rep_full _ _ _))
      | exact outBlk_used hu (View.readAt_rep_full _ _ _) ((View.readCov_full _ _ _ _ _).trans (congrArg k0_pay1 (View.readAt_rep_full _ _ _))) (View.readAt_rep_full _ _ _) ((View.readCov_full _ _ _ _ _).trans (congrArg k0_pay2 (View.readAt_rep_full _ _ _))) (View.readAt_rep_full _ _ _) ((View.readCov_full _ _ _ _ _).trans (congrArg k0_pay3 (View.readAt_rep_full _ _ _))) (View.readAt_rep_full _ _ _)
    isplitl [HS0]
    · iexists _; isplitr; swap; · iexact HS0
      ipureintro
      first
      | (guard_hyp hr : ¬ (_ = _)
         exact Memref.IsWhole.read_unread _ _)
      | exact (View.read_writes_full _ _ _ _ _).trans (congrArg k0_pay1 (View.readAt_rep_full _ _ _))
    isplitl [HS1]
    · iexists _; isplitr; swap; · iexact HS1
      ipureintro
      first
      | (guard_hyp hr : ¬ (_ = _)
         exact Memref.IsWhole.read_unread _ _)
      | exact (View.read_writes_full _ _ _ _ _).trans (congrArg k0_pay2 (View.readAt_rep_full _ _ _))
    · iexists _; isplitr; swap; · iexact HS2
      ipureintro
      first
      | (guard_hyp hr : ¬ (_ = _)
         exact Memref.IsWhole.read_unread _ _)
      | exact (View.read_writes_full _ _ _ _ _).trans (congrArg k0_pay3 (View.readAt_rep_full _ _ _))

end Cert.KernelIdeal.Experts

end
-- ==== Proof.Blocks.lean ====
module

public import proofs.«01_k».proof.Proof.Body
public import proofs.«01_k».proof.Proof.Gen.KernelIdeal.Launch
public import Idealize.ShloMosaic.Lib.Pipeline.Frame
public import Idealize.ShloMosaic.Lib.Pipeline.Value

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables -/

/-- The three tables the call reads, from the experts' row counts. -/
def tabs (x : IVec S32 32) : pre0.Contents (Elt F) := fun
  | 0 => blockE x
  | 1 => blockI x
  | 2 => nUsed x
  | ⟨_ + 3, h⟩ => absurd h (Nat.not_lt.2 (Nat.le_add_left _ _))

/-- A point as an index of a table of 288 words. -/
def wix (n : Nat) (h : n < 288) : S288.Idx := fun | 0 => (⟨n, h⟩ : Fin 288) | ⟨_ + 1, h⟩ => absurd h (Nat.not_lt.2 (Nat.le_add_left _ _))

/-- A grid point as an index of a table of 288 words. -/
def pt (i : grid0.Coords) : S288.Idx := wix (i 0).val (i 0).isLt

theorem unit_first (off : Fin 1 → Nat) (h : ∀ a, off a + S1.size a ≤ S288.size a) (z : (Rect.unit (s := S288) off S1.size h).shape.Idx)
    (n : Nat) (hn : n < 288) (e : off 0 = n) : (Rect.unit (s := S288) off S1.size h).emb z = wix n hn := by
  funext a
  apply Fin.ext
  have ha : a = (0 : Fin 1) := Subsingleton.elim (α := Fin 1) _ _
  subst ha
  have hz : (z (0 : Fin 1)).val < 1 := (z (0 : Fin 1)).isLt
  show off (0 : Fin 1) + 1 * (z (0 : Fin 1)).val = n
  omega

theorem tabs_at0 (x : IVec S32 32) (i : grid0.Coords) :
    (tabs (F := F) x).at 0 (Rect.unit (s := S288) (k0_off1 i) S1.size (k0_off1_inb i)) numel1_S1 = blockE x (pt i) :=
  congrArg (blockE x) (unit_first _ _ _ _ _ (congrFun (off1_val i) 0))

theorem tabs_at1 (x : IVec S32 32) (i : grid0.Coords) :
    (tabs (F := F) x).at 1 (Rect.unit (s := S288) (k0_off1 i) S1.size (k0_off1_inb i)) numel1_S1 = blockI x (pt i) :=
  congrArg (blockI x) (unit_first _ _ _ _ _ (congrFun (off1_val i) 0))

theorem blockE_lt (x : IVec S32 32) (y : S288.Idx) : (blockE x y).toNat < 32 := expertOf_toNat_lt _ _ _

theorem ix_xs (x : IVec S32 32) (i : grid0.Coords) : cc0_transform_0 k0_off1_inb numel1_S1 (tabs (F := F) x) i = ![(blockI x (pt i)).toNat, 0] :=
  congrArg (fun v : BitVec 32 => ![v.toNat, 0]) (tabs_at1 (F := F) x i)

theorem ix_w (x : IVec S32 32) (i : grid0.Coords) : cc0_transform_1 k0_off1_inb numel1_S1 (tabs (F := F) x) i = ![0, (blockE x (pt i)).toNat, 0, 0] :=
  congrArg (fun v : BitVec 32 => ![0, v.toNat, 0, 0]) (tabs_at0 (F := F) x i)

theorem ok_tabs (x : IVec S32 32) (hx : 1 ≤ (nb x).toInt) : ok0 (tabs (F := F) x) := by
  have he : ∀ i : grid0.Coords, (blockE x (pt i)).toNat < 32 := fun i => blockE_lt x _
  have hw : ∀ i : grid0.Coords, ∀ a, (cc0_transform_1 k0_off1_inb numel1_S1 (tabs (F := F) x) i a + 1) * S1x1x1024x1024.size a ≤ S2x32x1024x1024.size a := by
    intro i a
    rw [ix_w]
    have := he i
    match a with
    | ⟨0, _⟩ => show (0 + 1) * 1 ≤ 2; omega
    | ⟨1, _⟩ => show ((blockE x (pt i)).toNat + 1) * 1 ≤ 32; omega
    | ⟨2, _⟩ => show (0 + 1) * 1024 ≤ 1024; omega
    | ⟨3, _⟩ => show (0 + 1) * 1024 ≤ 1024; omega
  have hb : ∀ i : grid0.Coords, ∀ a, (cc0_transform_2 k0_off1_inb numel1_S1 (tabs (F := F) x) i a + 1) * S1x1x1x1024.size a ≤ S2x32x1x1024.size a := by
    intro i a
    rw [show cc0_transform_2 k0_off1_inb numel1_S1 (tabs (F := F) x) i = ![0, (blockE x (pt i)).toNat, 0, 0] from ix_w x i]
    have := he i
    match a with
    | ⟨0, _⟩ => show (0 + 1) * 1 ≤ 2; omega
    | ⟨1, _⟩ => show ((blockE x (pt i)).toNat + 1) * 1 ≤ 32; omega
    | ⟨2, _⟩ => show (0 + 1) * 1 ≤ 1; omega
    | ⟨3, _⟩ => show (0 + 1) * 1024 ≤ 1024; omega
  have hs : ∀ i : grid0.Coords, ∀ a, (cc0_transform_0 k0_off1_inb numel1_S1 (tabs (F := F) x) i a + 1) * S512x1024.size a ≤ S147456x1024.size a := by
    intro i a
    rw [ix_xs]
    have := blockI_lt x hx (pt i)
    match a with
    | ⟨0, _⟩ => show ((blockI x (pt i)).toNat + 1) * 512 ≤ 147456; omega
    | ⟨1, _⟩ => show (0 + 1) * 1024 ≤ 1024; omega
  exact ⟨fun i => ⟨hs i, .inl rfl⟩, fun i => ⟨hw i, .inl rfl⟩, fun i => ⟨hb i, .inl rfl⟩, fun i => ⟨hw i, .inl rfl⟩, fun i => ⟨hb i, .inl rfl⟩,
    fun i => ⟨hw i, .inl rfl⟩, fun i => ⟨hb i, .inl rfl⟩⟩

/-- The tables, admissible when some block is used. -/
def adm (x : IVec S32 32) (hx : 1 ≤ (nb x).toInt) : (pcfg0 (F := F)).Adm := ⟨tabs x, ok_tabs x hx⟩

/-- The element of the experts' weights that an element of one expert's block is. -/
def widx (e : BitVec 32) (he : e.toNat < 32) (y : S1x1x1024x1024.Idx) : S2x32x1024x1024.Idx := fun
  | 0 => (⟨0, by decide⟩ : Fin 2)
  | 1 => (⟨e.toNat, he⟩ : Fin 32)
  | 2 => (y 2 : Fin 1024)
  | 3 => (y 3 : Fin 1024)
  | ⟨_ + 4, h⟩ => absurd h (Nat.not_lt.2 (Nat.le_add_left _ _))

/-- The element of the experts' biases that an element of one expert's block is. -/
def bidx (e : BitVec 32) (he : e.toNat < 32) (y : S1x1x1x1024.Idx) : S2x32x1x1024.Idx := fun
  | 0 => (⟨0, by decide⟩ : Fin 2)
  | 1 => (⟨e.toNat, he⟩ : Fin 32)
  | 2 => (⟨0, by decide⟩ : Fin 1)
  | 3 => (y 3 : Fin 1024)
  | ⟨_ + 4, h⟩ => absurd h (Nat.not_lt.2 (Nat.le_add_left _ _))

/-- The element of the slots that an element of a block of them is. -/
def sidx (b : Nat) (hb : b < 288) (y : S512x1024.Idx) : S147456x1024.Idx := fun
  | 0 => (⟨b * 512 + (y 0).val, by have : (y 0).val < 512 := (y 0).isLt; show _ < 147456; omega⟩ : Fin 147456)
  | 1 => (y 1 : Fin 1024)
  | ⟨_ + 2, h⟩ => absurd h (Nat.not_lt.2 (Nat.le_add_left _ _))

attribute [local irreducible] blockE blockI nUsed

variable (m : (ℓ : Loc nD τ sig) → Buf (Elt F) ℓ)

/-- The experts' row counts, as the memory holds them at launch. -/
def X : IVec S32 32 := m (((0 : Dev nD) : Thread nD τ).loc main_arg0)

variable (hx : 1 ≤ (nb (X m)).toInt)

abbrev cfgA : Pipeline.Cfg sig Λ₀ := cfg0 (F := F) (adm (X m) hx)
abbrev pcs : Fin 1 → Pipeline.Cfg sig Λ₀ := Pipeline.pin (pcfgs (F := F)) fun _ => adm (X m) hx

/-- Point `t`'s coordinates. -/
abbrev crd (t : Fin (cfgA m hx).N) : (cfgA m hx).grid.Coords := (cfgA m hx).grid.coords t

abbrev ms0_0 (t : Fin (cfgA m hx).N) : Memref sig .tc .vmem S512x1024 .f32 := spec0_0.stage ((cfgA m hx).slots t (0 : Fin 8))
abbrev hs0_0 (t : Fin (cfgA m hx).N) : (ms0_0 m hx t).IsWhole := hstage0_0 (((cfgA m hx).slots t (0 : Fin 8)).cast nbuf0_0)
abbrev ms0_1 (t : Fin (cfgA m hx).N) : Memref sig .tc .vmem S1x1x1024x1024 .f32 := spec0_1.stage ((cfgA m hx).slots t (1 : Fin 8))
abbrev hs0_1 (t : Fin (cfgA m hx).N) : (ms0_1 m hx t).IsWhole := hstage0_1 (((cfgA m hx).slots t (1 : Fin 8)).cast nbuf0_1)
abbrev ms0_2 (t : Fin (cfgA m hx).N) : Memref sig .tc .vmem S1x1x1x1024 .f32 := spec0_2.stage ((cfgA m hx).slots t (2 : Fin 8))
abbrev hs0_2 (t : Fin (cfgA m hx).N) : (ms0_2 m hx t).IsWhole := hstage0_2 (((cfgA m hx).slots t (2 : Fin 8)).cast nbuf0_2)
abbrev ms0_3 (t : Fin (cfgA m hx).N) : Memref sig .tc .vmem S1x1x1024x1024 .f32 := spec0_3.stage ((cfgA m hx).slots t (3 : Fin 8))
abbrev hs0_3 (t : Fin (cfgA m hx).N) : (ms0_3 m hx t).IsWhole := hstage0_3 (((cfgA m hx).slots t (3 : Fin 8)).cast nbuf0_3)
abbrev ms0_4 (t : Fin (cfgA m hx).N) : Memref sig .tc .vmem S1x1x1x1024 .f32 := spec0_4.stage ((cfgA m hx).slots t (4 : Fin 8))
abbrev hs0_4 (t : Fin (cfgA m hx).N) : (ms0_4 m hx t).IsWhole := hstage0_4 (((cfgA m hx).slots t (4 : Fin 8)).cast nbuf0_4)
abbrev ms0_5 (t : Fin (cfgA m hx).N) : Memref sig .tc .vmem S1x1x1024x1024 .f32 := spec0_5.stage ((cfgA m hx).slots t (5 : Fin 8))
abbrev hs0_5 (t : Fin (cfgA m hx).N) : (ms0_5 m hx t).IsWhole := hstage0_5 (((cfgA m hx).slots t (5 : Fin 8)).cast nbuf0_5)
abbrev ms0_6 (t : Fin (cfgA m hx).N) : Memref sig .tc .vmem S1x1x1x1024 .f32 := spec0_6.stage ((cfgA m hx).slots t (6 : Fin 8))
abbrev hs0_6 (t : Fin (cfgA m hx).N) : (ms0_6 m hx t).IsWhole := hstage0_6 (((cfgA m hx).slots t (6 : Fin 8)).cast nbuf0_6)
abbrev ms0_7 (t : Fin (cfgA m hx).N) : Memref sig .tc .vmem S512x1024 .f32 := spec0_7.stage ((cfgA m hx).slots t (7 : Fin 8))
abbrev hs0_7 (t : Fin (cfgA m hx).N) : (ms0_7 m hx t).IsWhole := hstage0_7 (((cfgA m hx).slots t (7 : Fin 8)).cast nbuf0_7)

/-! ## The windows' blocks -/

/-- Window `w`'s block at point `t`, read off its array as the kernel is entered. -/
def iblk (c : Dev nD) (w : Fin (cfgA m hx).W) (t : Fin (cfgA m hx).N) : (((cfgA m hx).win w).xblock (crd m hx t)).Idx → Elt F ((cfgA m hx).win w).elt :=
  (((cfgA m hx).win w).blk t).view.read (Elt F) (V m c (Pipeline.arrRef spec0 w))

theorem crd_val (t : Fin (cfgA m hx).N) : (crd m hx t 0).val = t.val := by
  have h : t.val < 288 := lt_of_lt_of_eq t.isLt N_0
  have e : (crd m hx t 0).val = t.val / 1 % 288 := Pipeline.Grid.coords_val (G := grid0) t (0 : Fin 1) (S := 1) (B := 288) (by decide) rfl
  rw [e]; omega

/-- The expert of a grid point. -/
abbrev ex (t : Fin (cfgA m hx).N) : BitVec 32 := blockE (X m) (pt (crd m hx t))

theorem emb_w1 (t : Fin (cfgA m hx).N) (y : S1x1x1024x1024.Idx) : (((cfgA m hx).win (1 : Fin 8)).blk t).view.emb y = widx (ex m hx t) (blockE_lt _ _) y := by
  have hi : ((cfgA m hx).win (1 : Fin 8)).index t = ![0, (ex m hx t).toNat, 0, 0] := ix_w (F := F) (X m) (crd m hx t)
  have h0 : (y (0 : Fin 4)).val < 1 := (y (0 : Fin 4)).isLt
  have h1 : (y (1 : Fin 4)).val < 1 := (y (1 : Fin 4)).isLt
  funext a
  apply Fin.ext
  match a with
  | ⟨0, _⟩ =>
    show ((cfgA m hx).win (1 : Fin 8)).index t (0 : Fin 4) * 1 + 1 * (y (0 : Fin 4)).val = 0
    rw [hi]; show 0 * 1 + 1 * (y (0 : Fin 4)).val = 0; omega
  | ⟨1, _⟩ =>
    show ((cfgA m hx).win (1 : Fin 8)).index t (1 : Fin 4) * 1 + 1 * (y (1 : Fin 4)).val = (ex m hx t).toNat
    rw [hi]; show (ex m hx t).toNat * 1 + 1 * (y (1 : Fin 4)).val = _; omega
  | ⟨2, _⟩ =>
    show ((cfgA m hx).win (1 : Fin 8)).index t (2 : Fin 4) * 1024 + 1 * (y (2 : Fin 4)).val = (y (2 : Fin 4)).val
    rw [hi]; show 0 * 1024 + 1 * (y (2 : Fin 4)).val = _; omega
  | ⟨3, _⟩ =>
    show ((cfgA m hx).win (1 : Fin 8)).index t (3 : Fin 4) * 1024 + 1 * (y (3 : Fin 4)).val = (y (3 : Fin 4)).val
    rw [hi]; show 0 * 1024 + 1 * (y (3 : Fin 4)).val = _; omega

theorem emb_w3 (t : Fin (cfgA m hx).N) (y : S1x1x1024x1024.Idx) : (((cfgA m hx).win (3 : Fin 8)).blk t).view.emb y = widx (ex m hx t) (blockE_lt _ _) y :=
  emb_w1 m hx t y

theorem emb_w5 (t : Fin (cfgA m hx).N) (y : S1x1x1024x1024.Idx) : (((cfgA m hx).win (5 : Fin 8)).blk t).view.emb y = widx (ex m hx t) (blockE_lt _ _) y :=
  emb_w1 m hx t y

theorem emb_b2 (t : Fin (cfgA m hx).N) (y : S1x1x1x1024.Idx) : (((cfgA m hx).win (2 : Fin 8)).blk t).view.emb y = bidx (ex m hx t) (blockE_lt _ _) y := by
  have hi : ((cfgA m hx).win (2 : Fin 8)).index t = ![0, (ex m hx t).toNat, 0, 0] := ix_w (F := F) (X m) (crd m hx t)
  have h0 : (y (0 : Fin 4)).val < 1 := (y (0 : Fin 4)).isLt
  have h1 : (y (1 : Fin 4)).val < 1 := (y (1 : Fin 4)).isLt
  have h2 : (y (2 : Fin 4)).val < 1 := (y (2 : Fin 4)).isLt
  funext a
  apply Fin.ext
  match a with
  | ⟨0, _⟩ =>
    show ((cfgA m hx).win (2 : Fin 8)).index t (0 : Fin 4) * 1 + 1 * (y (0 : Fin 4)).val = 0
    rw [hi]; show 0 * 1 + 1 * (y (0 : Fin 4)).val = 0; omega
  | ⟨1, _⟩ =>
    show ((cfgA m hx).win (2 : Fin 8)).index t (1 : Fin 4) * 1 + 1 * (y (1 : Fin 4)).val = (ex m hx t).toNat
    rw [hi]; show (ex m hx t).toNat * 1 + 1 * (y (1 : Fin 4)).val = _; omega
  | ⟨2, _⟩ =>
    show ((cfgA m hx).win (2 : Fin 8)).index t (2 : Fin 4) * 1 + 1 * (y (2 : Fin 4)).val = 0
    rw [hi]; show 0 * 1 + 1 * (y (2 : Fin 4)).val = _; omega
  | ⟨3, _⟩ =>
    show ((cfgA m hx).win (2 : Fin 8)).index t (3 : Fin 4) * 1024 + 1 * (y (3 : Fin 4)).val = (y (3 : Fin 4)).val
    rw [hi]; show 0 * 1024 + 1 * (y (3 : Fin 4)).val = _; omega

theorem emb_b4 (t : Fin (cfgA m hx).N) (y : S1x1x1x1024.Idx) : (((cfgA m hx).win (4 : Fin 8)).blk t).view.emb y = bidx (ex m hx t) (blockE_lt _ _) y :=
  emb_b2 m hx t y

theorem emb_b6 (t : Fin (cfgA m hx).N) (y : S1x1x1x1024.Idx) : (((cfgA m hx).win (6 : Fin 8)).blk t).view.emb y = bidx (ex m hx t) (blockE_lt _ _) y :=
  emb_b2 m hx t y

theorem emb_s0 (t : Fin (cfgA m hx).N) (y : S512x1024.Idx) :
    (((cfgA m hx).win (0 : Fin 8)).blk t).view.emb y = sidx (blockI (X m) (pt (crd m hx t))).toNat (blockI_lt _ hx _) y := by
  have hi : ((cfgA m hx).win (0 : Fin 8)).index t = ![(blockI (X m) (pt (crd m hx t))).toNat, 0] := ix_xs (F := F) (X m) (crd m hx t)
  funext a
  apply Fin.ext
  match a with
  | ⟨0, _⟩ =>
    show ((cfgA m hx).win (0 : Fin 8)).index t (0 : Fin 2) * 512 + 1 * (y (0 : Fin 2)).val = (blockI (X m) (pt (crd m hx t))).toNat * 512 + (y (0 : Fin 2)).val
    rw [hi]; show (blockI (X m) (pt (crd m hx t))).toNat * 512 + 1 * (y (0 : Fin 2)).val = _; omega
  | ⟨1, _⟩ =>
    show ((cfgA m hx).win (0 : Fin 8)).index t (1 : Fin 2) * 1024 + 1 * (y (1 : Fin 2)).val = (y (1 : Fin 2)).val
    rw [hi]; show 0 * 1024 + 1 * (y (1 : Fin 2)).val = _; omega

theorem emb_o7 (t : Fin (cfgA m hx).N) (y : S512x1024.Idx) :
    (((cfgA m hx).win (7 : Fin 8)).blk t).view.emb y = sidx t.val (lt_of_lt_of_eq t.isLt N_0) y := by
  have ht : t.val < 288 := lt_of_lt_of_eq t.isLt N_0
  have hi : ((cfgA m hx).win (7 : Fin 8)).index t = ![t.val, 0] := by
    show ![(BitVec.ofNat 32 (crd m hx t 0).val).toNat, 0] = _
    rw [crd_val, BitVec.toNat_ofNat]; congr 1; omega
  funext a
  apply Fin.ext
  match a with
  | ⟨0, _⟩ =>
    show ((cfgA m hx).win (7 : Fin 8)).index t (0 : Fin 2) * 512 + 1 * (y (0 : Fin 2)).val = t.val * 512 + (y (0 : Fin 2)).val
    rw [hi]; show t.val * 512 + 1 * (y (0 : Fin 2)).val = _; omega
  | ⟨1, _⟩ =>
    show ((cfgA m hx).win (7 : Fin 8)).index t (1 : Fin 2) * 1024 + 1 * (y (1 : Fin 2)).val = (y (1 : Fin 2)).val
    rw [hi]; show 0 * 1024 + 1 * (y (1 : Fin 2)).val = _; omega

/-! ## The words the body reads -/

theorem wordAt_eq (T : S288.Idx → BitVec 32) (off : Fin 1 → Nat) (h : ∀ a, off a + S1.size a ≤ S288.size a) (n : Nat) (hn : n < 288) (e : off 0 = n) :
    wordAt (F := F) T off h = T (wix n hn) :=
  congrArg T (unit_first off h _ n hn e)

theorem wordOf_eq (x : IVec S32 32) : wordOf (F := F) (nUsed x) = nb x := nUsed_eq x _

/-- The weights are kept only past the first point, where the point before had the same expert. -/
theorem kept (t : Fin (cfgA m hx).N) (h : ¬ loadCond (F := F) (crd m hx t) (blockE (X m)) = 1#1) :
    ∃ t' : Fin (cfgA m hx).N, t'.val + 1 = t.val ∧ ex m hx t' = ex m hx t := by
  have h' := mt (reload_iff (crd m hx t) _ _).2 h
  rw [not_or, not_not] at h'
  have ht : t.val < 288 := lt_of_lt_of_eq t.isLt N_0
  have hc := crd_val m hx t
  obtain ⟨h1, h2⟩ := h'
  refine ⟨⟨t.val - 1, lt_of_le_of_lt (Nat.sub_le _ _) t.isLt⟩, ?_, ?_⟩
  · show t.val - 1 + 1 = t.val; omega
  · have e1 := wordAt_eq (F := F) (blockE (X m)) (k0_off1 (crd m hx t)) (k0_off1_inb (crd m hx t)) t.val ht (by rw [off1_val, hc]; rfl)
    have e2 := wordAt_eq (F := F) (blockE (X m)) (k0_off2 (crd m hx t)) (k0_off2_inb (crd m hx t)) (t.val - 1) (by omega) (by rw [off2_val, hc]; rfl)
    rw [e1, e2] at h2
    have p1 : pt (crd m hx t) = wix t.val ht := by unfold pt; congr 1
    have p2 : pt (crd m hx ⟨t.val - 1, lt_of_le_of_lt (Nat.sub_le _ _) t.isLt⟩) = wix (t.val - 1) (by omega) := by
      unfold pt; congr 1; exact crd_val m hx _
    show blockE (X m) _ = blockE (X m) _
    rw [p1, p2]; exact h2.symm

theorem iblk_1 (c : Dev nD) (t : Fin (cfgA m hx).N) (y : S1x1x1024x1024.Idx) :
    iblk m hx c (1 : Fin 8) t y = V m c main_arg2 (widx (ex m hx t) (blockE_lt _ _) y) := congrArg (V m c main_arg2) (emb_w1 m hx t y)

theorem iblk_3 (c : Dev nD) (t : Fin (cfgA m hx).N) (y : S1x1x1024x1024.Idx) :
    iblk m hx c (3 : Fin 8) t y = V m c main_arg4 (widx (ex m hx t) (blockE_lt _ _) y) := congrArg (V m c main_arg4) (emb_w3 m hx t y)

theorem iblk_5 (c : Dev nD) (t : Fin (cfgA m hx).N) (y : S1x1x1024x1024.Idx) :
    iblk m hx c (5 : Fin 8) t y = V m c main_arg6 (widx (ex m hx t) (blockE_lt _ _) y) := congrArg (V m c main_arg6) (emb_w5 m hx t y)

theorem widx_congr {e e' : BitVec 32} (he : e.toNat < 32) (he' : e'.toNat < 32) (h : e = e') : widx e he = widx e' he' := by subst h; rfl

theorem iblk_w1 (c : Dev nD) (t t' : Fin (cfgA m hx).N) (h : ex m hx t' = ex m hx t) : iblk m hx c (1 : Fin 8) t' = iblk m hx c (1 : Fin 8) t :=
  funext fun y => (iblk_1 m hx c t' y).trans (by rw [widx_congr _ (blockE_lt _ _) h]; exact (iblk_1 m hx c t y).symm)

theorem iblk_w3 (c : Dev nD) (t t' : Fin (cfgA m hx).N) (h : ex m hx t' = ex m hx t) : iblk m hx c (3 : Fin 8) t' = iblk m hx c (3 : Fin 8) t :=
  funext fun y => (iblk_3 m hx c t' y).trans (by rw [widx_congr _ (blockE_lt _ _) h]; exact (iblk_3 m hx c t y).symm)

theorem iblk_w5 (c : Dev nD) (t t' : Fin (cfgA m hx).N) (h : ex m hx t' = ex m hx t) : iblk m hx c (5 : Fin 8) t' = iblk m hx c (5 : Fin 8) t :=
  funext fun y => (iblk_5 m hx c t' y).trans (by rw [widx_congr _ (blockE_lt _ _) h]; exact (iblk_5 m hx c t y).symm)

end Cert.KernelIdeal.Experts

end
-- ==== Proof.Run.lean ====
module

public import proofs.«01_k».proof.Proof.Blocks

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hx : 1 ≤ (nb (X m)).toInt)

attribute [local irreducible] blockE blockI nUsed

abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

/-! ## The pipeline's proof data -/

/-- What the scratch buffers hold before position `n`: past the first, the casts of the weights of the expert of the point before. -/
def Kept (c : Dev nD) (n : Nat) (s0 s1 s2 : Vec F S1024x1024 .bf16) : Prop :=
  ∀ t : Fin (cfgA m hx).N, t.val + 1 = n →
    s0 = k0_pay1 (iblk m hx c (1 : Fin 8) t) ∧ s1 = k0_pay2 (iblk m hx c (3 : Fin 8) t) ∧ s2 = k0_pay3 (iblk m hx c (5 : Fin 8) t)

/-- The invariant before position `n`: the scratch buffers, the generator's register, and the body's halves of the tables. -/
def Phi (c : Dev nD) (n : Nat) : sProp 𝕄 :=
  iprop((∃ s0 s1 s2, ⌜Kept m hx c n s0 s1 s2⌝ ∗ owns (c : Thread nD τ) scM0_0 fullShare s0 ∗ owns (c : Thread nD τ) scM0_1 fullShare s1
      ∗ owns (c : Thread nD τ) scM0_2 fullShare s2)
    ∗ (∃ r, prngReg c r)
    ∗ ((Memref.whole main_v33 : Memref sig .tc .smem S288 .i32).view.loc (c : Thread nD τ) ↦{fullShare.right} blockE (X m))
    ∗ ((Memref.whole main_v24 : Memref sig .tc .smem S288 .i32).view.loc (c : Thread nD τ) ↦{fullShare.right} blockI (X m))
    ∗ ((Memref.whole main_v19 : Memref sig .tc .smem S1 .i32).view.loc (c : Thread nD τ) ↦{fullShare.right} nUsed (X m)))

/-- What the output's block holds after a point. -/
abbrev outAt (c : Dev nD) (t : Fin (cfgA m hx).N) : Vec F S512x1024 .f32 :=
  outBlk (crd m hx t) (wordOf (F := F) (nUsed (X m))) (iblk m hx c (0 : Fin 8) t) (iblk m hx c (1 : Fin 8) t) (iblk m hx c (2 : Fin 8) t)
    (iblk m hx c (3 : Fin 8) t) (iblk m hx c (4 : Fin 8) t) (iblk m hx c (5 : Fin 8) t) (iblk m hx c (6 : Fin 8) t)

/-- The proof data of the one pipeline on core `c`. -/
def dats (_ : Fin 1) (c : Dev nD) : Dat τ (Elt F) Unit ℕ (UR sig nD τ) ℕ (cfgA m hx) c where
  A w := V m c (Pipeline.arrRef spec0 w)
  after w t := match w with
    | ⟨0, _⟩ => iblk m hx c (0 : Fin 8) t
    | ⟨1, _⟩ => iblk m hx c (1 : Fin 8) t
    | ⟨2, _⟩ => iblk m hx c (2 : Fin 8) t
    | ⟨3, _⟩ => iblk m hx c (3 : Fin 8) t
    | ⟨4, _⟩ => iblk m hx c (4 : Fin 8) t
    | ⟨5, _⟩ => iblk m hx c (5 : Fin 8) t
    | ⟨6, _⟩ => iblk m hx c (6 : Fin 8) t
    | ⟨7, _⟩ => outAt m hx c t
  Φ t := Phi m hx c t.val
  q _ := fullShare
  owed _ := 0

theorem A_eq (c : Dev nD) (w : Fin 8) : (dats m hx 0 c).A w = V m c (Pipeline.arrRef spec0 w) := by dsimp only [dats]

theorem after0_0 (c : Dev nD) (t : Fin (cfgA m hx).N) : (dats m hx 0 c).after (0 : Fin 8) t = iblk m hx c (0 : Fin 8) t := by dsimp only [dats]
theorem after0_1 (c : Dev nD) (t : Fin (cfgA m hx).N) : (dats m hx 0 c).after (1 : Fin 8) t = iblk m hx c (1 : Fin 8) t := by dsimp only [dats]
theorem after0_2 (c : Dev nD) (t : Fin (cfgA m hx).N) : (dats m hx 0 c).after (2 : Fin 8) t = iblk m hx c (2 : Fin 8) t := by dsimp only [dats]
theorem after0_3 (c : Dev nD) (t : Fin (cfgA m hx).N) : (dats m hx 0 c).after (3 : Fin 8) t = iblk m hx c (3 : Fin 8) t := by dsimp only [dats]
theorem after0_4 (c : Dev nD) (t : Fin (cfgA m hx).N) : (dats m hx 0 c).after (4 : Fin 8) t = iblk m hx c (4 : Fin 8) t := by dsimp only [dats]
theorem after0_5 (c : Dev nD) (t : Fin (cfgA m hx).N) : (dats m hx 0 c).after (5 : Fin 8) t = iblk m hx c (5 : Fin 8) t := by dsimp only [dats]
theorem after0_6 (c : Dev nD) (t : Fin (cfgA m hx).N) : (dats m hx 0 c).after (6 : Fin 8) t = iblk m hx c (6 : Fin 8) t := by dsimp only [dats]
theorem after0_7 (c : Dev nD) (t : Fin (cfgA m hx).N) : (dats m hx 0 c).after (7 : Fin 8) t = outAt m hx c t := by dsimp only [dats]

theorem before0_0 (c : Dev nD) (t : Fin (cfgA m hx).N) (d) : (dats m hx 0 c).before (0 : Fin 8) t d = iblk m hx c (0 : Fin 8) t :=
  ((dats m hx 0 c).before_in_eq_fetched (0 : Fin 8) rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgA m hx).N) (d) : (dats m hx 0 c).before (1 : Fin 8) t d = iblk m hx c (1 : Fin 8) t :=
  ((dats m hx 0 c).before_in_eq_fetched (1 : Fin 8) rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgA m hx).N) (d) : (dats m hx 0 c).before (2 : Fin 8) t d = iblk m hx c (2 : Fin 8) t :=
  ((dats m hx 0 c).before_in_eq_fetched (2 : Fin 8) rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgA m hx).N) (d) : (dats m hx 0 c).before (3 : Fin 8) t d = iblk m hx c (3 : Fin 8) t :=
  ((dats m hx 0 c).before_in_eq_fetched (3 : Fin 8) rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgA m hx).N) (d) : (dats m hx 0 c).before (4 : Fin 8) t d = iblk m hx c (4 : Fin 8) t :=
  ((dats m hx 0 c).before_in_eq_fetched (4 : Fin 8) rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgA m hx).N) (d) : (dats m hx 0 c).before (5 : Fin 8) t d = iblk m hx c (5 : Fin 8) t :=
  ((dats m hx 0 c).before_in_eq_fetched (5 : Fin 8) rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfgA m hx).N) (d) : (dats m hx 0 c).before (6 : Fin 8) t d = iblk m hx c (6 : Fin 8) t :=
  ((dats m hx 0 c).before_in_eq_fetched (6 : Fin 8) rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation -/

theorem stored (i : grid0.Coords) (v : BitVec 32) : (!(k0_cond2 i v == 1#1) && !(k0_cond3 i v == 1#1)) = false := by
  by_cases h : k0_cond2 i v = 1#1
  · rw [h]; rfl
  · have h3 : k0_cond3 i v = 1#1 := by
      rw [cond2_iff] at h; rw [cond3_iff]; exact not_lt.1 h
    rw [h3, Bool.and_eq_false_iff]; exact .inr rfl

/-- The output's block is stored at every point. -/
theorem idle7 (t : Fin (cfgA m hx).N) : (cfgA m hx).idle (7 : Fin 8) ((cfgA m hx).grid.coords t) = false := stored (crd m hx t) _

/-- The body at point `t` on its staging memrefs, as the pipeline calls it. -/
abbrev bodyAt0 (t : Fin (cfgA m hx).N) : Prog (TpuEff nD τ sig (Elt F) Λ₀ .tc) PUnit :=
  cc0_moe_experts (crd m hx t) (Memref.whole main_v33) (Memref.isWhole_whole _) (Memref.whole main_v24) (Memref.isWhole_whole _) (Memref.whole main_v19) (Memref.isWhole_whole _)
    (ms0_0 m hx t) (hs0_0 m hx t) (ms0_1 m hx t) (hs0_1 m hx t) (ms0_2 m hx t) (hs0_2 m hx t) (ms0_3 m hx t) (hs0_3 m hx t) (ms0_4 m hx t) (hs0_4 m hx t)
    (ms0_5 m hx t) (hs0_5 m hx t) (ms0_6 m hx t) (hs0_6 m hx t) (ms0_7 m hx t) (hs0_7 m hx t)
    (Memref.whole cc0_scratch0) (Memref.isWhole_whole _) (Memref.whole cc0_scratch1) (Memref.isWhole_whole _) (Memref.whole cc0_scratch2) (Memref.isWhole_whole _)

/-- The scratch buffers hold the casts of this point's weights wherever the body does not cast them again. -/
theorem keep (c : Dev nD) (t : Fin (cfgA m hx).N) {s0 s1 s2 : Vec F S1024x1024 .bf16} (hk : Kept m hx c t.val s0 s1 s2)
    (h : ¬ loadCond (F := F) (crd m hx t) (blockE (X m)) = 1#1) :
    s0 = k0_pay1 (iblk m hx c (1 : Fin 8) t) ∧ s1 = k0_pay2 (iblk m hx c (3 : Fin 8) t) ∧ s2 = k0_pay3 (iblk m hx c (5 : Fin 8) t) := by
  obtain ⟨t', ht, he⟩ := kept m hx t h
  obtain ⟨h0, h1, h2⟩ := hk t' ht
  exact ⟨h0.trans (congrArg k0_pay1 (iblk_w1 m hx c t t' he)), h1.trans (congrArg k0_pay2 (iblk_w3 m hx c t t' he)), h2.trans (congrArg k0_pay3 (iblk_w5 m hx c t t' he))⟩

theorem kept_succ (c : Dev nD) (t : Fin (cfgA m hx).N) :
    Kept m hx c (t.val + 1) (k0_pay1 (iblk m hx c (1 : Fin 8) t)) (k0_pay2 (iblk m hx c (3 : Fin 8) t)) (k0_pay3 (iblk m hx c (5 : Fin 8) t)) := by
  intro t' h
  have : t' = t := Fin.ext (by omega)
  subst this; exact ⟨rfl, rfl, rfl⟩

set_option maxHeartbeats 2000000 in
theorem sound_body (c : Dev nD) (t : Fin (cfgA m hx).N) :
    iprop((dats m hx 0 c).Φ t.castSucc ∗ (dats m hx 0 c).owesAt () t.castSucc
        ∗ (∃ d, owns (c : Thread nD τ) (ms0_0 m hx t) fullShare ((dats m hx 0 c).before (0 : Fin 8) t d))
        ∗ (∃ d, owns (c : Thread nD τ) (ms0_1 m hx t) fullShare ((dats m hx 0 c).before (1 : Fin 8) t d))
        ∗ (∃ d, owns (c : Thread nD τ) (ms0_2 m hx t) fullShare ((dats m hx 0 c).before (2 : Fin 8) t d))
        ∗ (∃ d, owns (c : Thread nD τ) (ms0_3 m hx t) fullShare ((dats m hx 0 c).before (3 : Fin 8) t d))
        ∗ (∃ d, owns (c : Thread nD τ) (ms0_4 m hx t) fullShare ((dats m hx 0 c).before (4 : Fin 8) t d))
        ∗ (∃ d, owns (c : Thread nD τ) (ms0_5 m hx t) fullShare ((dats m hx 0 c).before (5 : Fin 8) t d))
        ∗ (∃ d, owns (c : Thread nD τ) (ms0_6 m hx t) fullShare ((dats m hx 0 c).before (6 : Fin 8) t d))
        ∗ (∃ d, owns (c : Thread nD τ) (ms0_7 m hx t) fullShare ((dats m hx 0 c).before (7 : Fin 8) t d)))
      ⊢ wp frame (wpE (defs₀ (F := F)) Variants.none c none) Set.univ (bodyAt0 m hx t) fun _ =>
          iprop((dats m hx 0 c).Φ t.succ ∗ (dats m hx 0 c).owesAt () t.succ
            ∗ bigSep Finset.univ fun w : Fin (cfgA m hx).W =>
                match (cfgA m hx).idle w ((cfgA m hx).grid.coords t) with
                | true =>
                  match ((cfgA m hx).win w).flush t with
                  | false => iprop(∃ d, owns (c : Thread nD τ) (((cfgA m hx).win w).stage ((cfgA m hx).slots t w)) fullShare ((dats m hx 0 c).before w t d))
                  | true => owns (c : Thread nD τ) (((cfgA m hx).win w).stage ((cfgA m hx).slots t w)) fullShare ((dats m hx 0 c).after w t)
                | false => owns (c : Thread nD τ) (((cfgA m hx).win w).stage ((cfgA m hx).slots t w)) fullShare ((dats m hx 0 c).after w t)) := by
  rw [bigSep_W0]
  rewrite [idle7 m hx t]
  simp only [before0_0, before0_1, before0_2, before0_3, before0_4, before0_5, before0_6, after0_0, after0_1, after0_2, after0_3, after0_4, after0_5, after0_6, after0_7]
  rewrite [show (dats m hx 0 c).Φ t.succ = Phi m hx c (t.val + 1) from rfl, show (dats m hx 0 c).Φ t.castSucc = Phi m hx c t.val from rfl,
    show (dats m hx 0 c).owesAt () t.succ = (dats m hx 0 c).owesAt () t.castSucc from rfl]
  unfold Phi
  iintro ⟨⟨⟨%s0, %s1, %s2, %hk, HS0, HS1, HS2⟩, Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (crd m hx t) (ms0_0 m hx t) (hs0_0 m hx t) (ms0_1 m hx t) (hs0_1 m hx t) (ms0_2 m hx t) (hs0_2 m hx t) (ms0_3 m hx t) (hs0_3 m hx t) (ms0_4 m hx t) (hs0_4 m hx t) (ms0_5 m hx t) (hs0_5 m hx t) (ms0_6 m hx t) (hs0_6 m hx t) (ms0_7 m hx t) (hs0_7 m hx t)
    (Memref.whole cc0_scratch0) (Memref.isWhole_whole _) (Memref.whole cc0_scratch1) (Memref.isWhole_whole _) (Memref.whole cc0_scratch2) (Memref.isWhole_whole _)
    (blockE (X m)) (blockI (X m)) (nUsed (X m)) (iblk m hx c (0 : Fin 8) t) (iblk m hx c (1 : Fin 8) t) (iblk m hx c (2 : Fin 8) t) (iblk m hx c (3 : Fin 8) t) (iblk m hx c (4 : Fin 8) t) (iblk m hx c (5 : Fin 8) t) (iblk m hx c (6 : Fin 8) t)
    s0 s1 s2 (keep m hx c t hk))
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, H7, HS0, HS1, HS2⟩
  isplitl [HS0 HS1 HS2 Hg HT0 HT1 HT2]
  · isplitl [HS0 HS1 HS2]
    · iexists _; iexists _; iexists _
      isplitr
      · ipureintro; exact kept_succ m hx c t
      isplitl [HS0]; · iexact HS0
      isplitl [HS1]; · iexact HS1
      iexact HS2
    isplitl [Hg]; · iexact Hg
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

theorem body_obligation (c : Dev nD) : BodyObligation (dats m hx 0 c) (defs₀ (F := F)) Variants.none () Set.univ := fun t => by
  rw [bigSep_W0]
  exact sound_body m hx c t

/-! ## The launch -/

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v33) ↦{q 0} v 0) ∗ (((c : Thread nD τ).loc main_v24) ↦{q 1} v 1) ∗ (((c : Thread nD τ).loc main_v19) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem PhiA0_eq (c : Dev nD) : (Pipeline.ΦA spec0 c : sProp 𝕄)
    = iprop(((∃ d, owns (c : Thread nD τ) scM0_0 fullShare d) ∗ (∃ d, owns (c : Thread nD τ) scM0_1 fullShare d) ∗ (∃ d, owns (c : Thread nD τ) scM0_2 fullShare d)) ∗ ∃ r, prngReg c r) := by
  unfold Pipeline.ΦA; rw [scopedRest0_eq]; simp only [scM0_0, scM0_1, scM0_2, owns_whole]; rfl

theorem hin (c : Dev nD) : iprop(Pipeline.ΦA spec0 c ∗ Pipeline.ΦT pre0 (adm (F := F) (X m) hx).1 c) ⊢ (dats m hx 0 c).Φ 0 := by
  unfold Pipeline.ΦT
  rw [PhiA0_eq, prefHeld_eq, show (dats m hx 0 c).Φ 0 = Phi m hx c 0 from rfl]
  unfold Phi
  iintro ⟨⟨⟨⟨%s0, HS0⟩, ⟨%s1, HS1⟩, ⟨%s2, HS2⟩⟩, Hg⟩, HT0, HT1, HT2⟩
  isplitl [HS0 HS1 HS2]
  · iexists s0; iexists s1; iexists s2
    isplitr
    · ipureintro; exact fun t h => absurd h (Nat.succ_ne_zero _)
    isplitl [HS0]; · iexact HS0
    isplitl [HS1]; · iexact HS1
    iexact HS2
  isplitl [Hg]; · iexact Hg
  isplitl [HT0]; · iexact HT0
  isplitl [HT1]; · iexact HT1
  iexact HT2

theorem hout (c : Dev nD) : (dats m hx 0 c).Φ (Fin.last (cfgA m hx).N) ⊢ Pipeline.ΦA spec0 c := by
  rw [PhiA0_eq, show (dats m hx 0 c).Φ (Fin.last (cfgA m hx).N) = Phi m hx c (cfgA m hx).N from rfl]
  unfold Phi
  iintro ⟨⟨%s0, %s1, %s2, -, HS0, HS1, HS2⟩, Hg, -, -, -⟩
  isplitl [HS0 HS1 HS2]
  · isplitl [HS0]; · iexists _; iexact HS0
    isplitl [HS1]; · iexists _; iexact HS1
    iexists _; iexact HS2
  iexact Hg

theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main prefixes ⟨hostOps0_sub, hostOps0_1_sub, hostOps0_2_sub⟩
    ⟨by repeat' constructor, by repeat' constructor, by repeat' constructor⟩ fun c => (main_chain c).trans rfl

theorem hpf (c : Dev nD) (k : Fin 3) : V m c (pre0.ref k) = (adm (F := F) (X m) hx).1 k := by
  have hc : c = 0 := Subsingleton.elim _ _
  subst hc
  match k with
  | ⟨0, _⟩ => exact V_v33 m 0
  | ⟨1, _⟩ => exact V_v24 m 0
  | ⟨2, _⟩ => exact V_v19 m 0

set_option backward.isDefEq.respectTransparency.types false in
/-- Every weakly fair execution terminates with the arrays at what the proof data say, every other buffer as the kernel found
    it, and every counter at zero. -/
theorem run_main : θ_run (defs (F := F)) (onTc (τ := τ) (main (F := F))) (s₀ m ρ) (fun r => (Pipeline.FramePost (pcs m hx) (dats m hx) 0 (V m)) r ∧ r.2.sem = fun _ => 0) :=
  Pipeline.θ_run_frameP_track (Q' := _) (pcfgs (F := F)) (fun _ => adm (X m) hx) (dats m hx) (0 : Fin 1) launch0 defs₀ Variants.none m ρ main
    (hbody := fun c => (body_obligation m hx c).loose) (hshare := fun c => (dats m hx 0 c).share_full fun _ => rfl)
    (howed := fun _ _ => rfl) (V := V m) (hmain := hmain m) (hA := A_eq m hx) (hpf := hpf m hx) (hin := hin m hx) (hout := hout m hx)

include hx in
/-- The result ends at the array the proof data give, the arguments as they began, and every counter at zero. -/
theorem run_all : θ_run (defs (F := F)) (onTc (τ := τ) (main (F := F))) ⟨m, fun _ => 0, ρ⟩ (fun r => (∀ c : Dev nD,
      r.2.mem ((c.tc : Thread nD τ).loc main_v37) = (dats m hx 0 c).arrAt (7 : Fin 8) (cfgA m hx).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨(h.1 c).1 (7 : Fin 8),
    ((h.1 c).2 main_arg0 (Pipeline.mem_restRefs_of (win := spec0) main_arg0 (by decide) (by decide))).trans (V_arg0 m c),
    ((h.1 c).1 (0 : Fin 8)).trans (((dats m hx 0 c).arrAt_in (0 : Fin 8) rfl _).trans ((A_eq m hx c 0).trans (V_arg1 m c))),
    ((h.1 c).1 (1 : Fin 8)).trans (((dats m hx 0 c).arrAt_in (1 : Fin 8) rfl _).trans ((A_eq m hx c 1).trans (V_arg2 m c))),
    ((h.1 c).2 main_arg3 (Pipeline.mem_restRefs_of (win := spec0) main_arg3 (by decide) (by decide))).trans (V_arg3 m c),
    ((h.1 c).1 (3 : Fin 8)).trans (((dats m hx 0 c).arrAt_in (3 : Fin 8) rfl _).trans ((A_eq m hx c 3).trans (V_arg4 m c))),
    ((h.1 c).2 main_arg5 (Pipeline.mem_restRefs_of (win := spec0) main_arg5 (by decide) (by decide))).trans (V_arg5 m c),
    ((h.1 c).1 (5 : Fin 8)).trans (((dats m hx 0 c).arrAt_in (5 : Fin 8) rfl _).trans ((A_eq m hx c 5).trans (V_arg6 m c))),
    ((h.1 c).2 main_arg7 (Pipeline.mem_restRefs_of (win := spec0) main_arg7 (by decide) (by decide))).trans (V_arg7 m c)⟩, h.2⟩) (run_main m ρ hx)

include hx in
/-- The arguments end as they began, and every counter ends at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_all m ρ hx)

end Cert.KernelIdeal.Experts

end
-- ==== Proof.Same.lean ====
/- The two printed programs are the same text over any float instance; this module says so at the bits, so that one run serves
   both. -/
module

public import proofs.«01_k».proof.Proof.Gen.Kernel
public import proofs.«01_k».proof.Proof.Gen.KernelIdeal
public import Idealize.ShloMosaic.PureOps.BitExact
public import Idealize.ShloMosaic.Adequacy
public import Idealize.ShloMosaic.Init

@[expose] public section

noncomputable section

namespace Cert.Proof

open Idealize.ShloMosaic Idealize.ShloMosaic.TcCoe Idealize.SL.Sem

/-- The bodies of the two programs are one table. -/
theorem defs₀_same : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => exact rfl

set_option maxHeartbeats 4000000 in
/-- The launched definitions of the two programs are equal. -/
theorem defs_same : Cert.Kernel.defs (F := Bits) = Cert.KernelIdeal.defs :=
  congrArg (Pipeline.defs Cert.KernelIdeal.pcfgs) defs₀_same

set_option maxHeartbeats 4000000 in
/-- The host codes of the two programs are equal. -/
theorem main_same : Cert.Kernel.main (F := Bits) = Cert.KernelIdeal.main := id rfl

end Cert.Proof

end
-- ==== Proof.Spec.lean ====
/- One entry of an expert's output over the reals, and the kernel's payloads at an entry. -/
module

public import proofs.«01_k».proof.Proof.Body
public import Idealize.ShloMosaic.Lib.Pointwise

@[expose] public section

set_option maxRecDepth 16384

noncomputable section

namespace Cert.KernelIdeal.Experts

open Cert.KernelIdeal Cert.KernelIdeal.Gen
open Idealize.ShloMosaic Idealize.ShloMosaic.TcCoe

/-- The value a constant's word denotes. -/
abbrev cst (w : BitVec 32) : EReal := Ideal.ofBits .f32 w

/-- One entry of a row through a linear map. -/
def linAt (x : Fin 1024 → EReal) (w : Fin 1024 → Fin 1024 → EReal) (b : Fin 1024 → EReal) (f : Fin 1024) : EReal :=
  ∑ k, x k * w k f + b f

/-- The gated activation of a gate and an up value. -/
def actAt (g u : EReal) : EReal :=
  (min (cst 0x40E00000#32) (max (cst 0xC0E00000#32) u) + 1) *
    (min g (cst 0x40E00000#32) * (Ideal.div 1 (1 + Ideal.exp (-(cst 0x3FD9DB23#32 * min g (cst 0x40E00000#32))))))

/-- One entry of a row through an expert. -/
def mlpAt (x : Fin 1024 → EReal) (wg : Fin 1024 → Fin 1024 → EReal) (bg : Fin 1024 → EReal) (wu : Fin 1024 → Fin 1024 → EReal) (bu : Fin 1024 → EReal)
    (wd : Fin 1024 → Fin 1024 → EReal) (bd : Fin 1024 → EReal) (q : Fin 1024) : EReal :=
  linAt (fun f => actAt (linAt x wg bg f) (linAt x wu bu f)) wd bd q

/-- The block stored at a point in use, at one entry. -/
theorem stored_apply (x0 : Vec Ideal S512x1024 .f32) (x1 : Vec Ideal S1x1x1024x1024 .f32) (x2 : Vec Ideal S1x1x1x1024 .f32) (x3 : Vec Ideal S1x1x1024x1024 .f32) (x4 : Vec Ideal S1x1x1x1024 .f32) (x5 : Vec Ideal S1x1x1024x1024 .f32) (x6 : Vec Ideal S1x1x1x1024 .f32) (r : Fin 512) (q : Fin 1024) :
    k0_pay4 (k0_pay6 x0 (k0_pay1 x1) x2 (k0_pay2 x3) x4) (k0_pay3 x5) x6 (ix2 r q) =
      mlpAt (fun k => x0 (ix2 r k)) (fun k f => x1 (ix4 0 0 k f)) (fun f => x2 (ix4 0 0 0 f)) (fun k f => x3 (ix4 0 0 k f)) (fun f => x4 (ix4 0 0 0 f))
        (fun k f => x5 (ix4 0 0 k f)) (fun f => x6 (ix4 0 0 0 f)) q := by
  unfold mlpAt linAt actAt
  pointwise [cst, k0_pay4, k0_pay6, k0_pay1, k0_pay2, k0_pay3]
  simp only [zero_sub]

/-- The block stored at a point not in use is zero. -/
theorem zero_apply (r : Fin 512) (q : Fin 1024) : k0_pay5 (F := Ideal) (ix2 r q) = 0 := by
  pointwise [k0_pay5]

end Cert.KernelIdeal.Experts

end
-- ==== Proof.RefValue.lean ====
/- What the reference computes of the experts, in stages, and one entry of it over the reals. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Experts

open Cert.ReferenceIdeal Cert.ReferenceIdeal.Gen
open Idealize.ShloMosaic Idealize.ShloMosaic.TcCoe
open Cert.KernelIdeal.Experts (blkEnd expertOf nBlk)

variable {F : FTy → Type} [FloatOps F]

/-- The row numbers the gathers read: an expert's number, a negative one counted from the end. -/
def start (e : IVec S288 32) : IVec S288x1 32 :=
  broadcastInDim S288x1 ![0] bcast_S288_S288x1_0 (select (cmpi .slt e (broadcastInDim S288 ![] bcast_S_S288 (constantI S_ 32 0#32)))
    (addi e (broadcastInDim S288 ![] bcast_S_S288 (constantI S_ 32 32#32))) e)

/-- Each block's weights. -/
def wOf (e : IVec S288 32) (W : FVec F S2x32x1024x1024 .f32) : FVec F S288x1024x1024 .f32 :=
  Host.gather gather_S32x1024x1024_S288x1_S288x1024x1024_12_0_n_n_0_1_110241024
    (shapeCast S32x1024x1024 (extractStridedSlice S1x32x1024x1024 ![0, 0, 0, 0] W slices_S2x32x1024x1024_S1x32x1024x1024_0_0_0_0)
      shapeCasts_S1x32x1024x1024_S32x1024x1024) (start e)

/-- Each block's bias, on each of its rows. -/
def bOf (e : IVec S288 32) (b : FVec F S2x32x1024 .f32) : FVec F S288x512x1024 .f32 :=
  broadcastInDim S288x512x1024 ![0, 1, 2] bcast_S288x1x1024_S288x512x1024_0_1_2 (broadcastInDim S288x1x1024 ![0, 2] bcast_S288x1024_S288x1x1024_0_2
    (Host.gather gather_S32x1024_S288x1_S288x1024_1_0_n_n_0_1_11024
      (shapeCast S32x1024 (extractStridedSlice S1x32x1024 ![0, 0, 0] b slices_S2x32x1024_S1x32x1024_0_0_0) shapeCasts_S1x32x1024_S32x1024) (start e)))

/-- Each block through its expert's linear map. -/
def lin (e : IVec S288 32) (x : FVec F S288x512x1024 .f32) (W : FVec F S2x32x1024x1024 .f32) (b : FVec F S2x32x1024 .f32) : FVec F S288x512x1024 .f32 :=
  addf (Host.dotGeneral dot_S288x512x1024_S288x1024x1024_S288x512x1024_2_1_1_2_0_0 none x (wOf e W)) (bOf e b)

/-- A constant in every entry. -/
def every (w : BitVec 32) : FVec F S288x512x1024 .f32 := broadcastInDim S288x512x1024 ![] bcast_S_S288x512x1024 (constant S_ .f32 w)

/-- The gated activation of the two linear maps. -/
def act (g u : FVec F S288x512x1024 .f32) : FVec F S288x512x1024 .f32 :=
  mulf (addf (minimumf (every 0x40E00000#32) (maximumf (every 0xC0E00000#32) u)) (every 0x3F800000#32))
    (mulf (minimumf g (every 0x40E00000#32)) (Host.divf (every 0x3F800000#32) (addf (every 0x3F800000#32)
      (Host.exp (Host.negf (mulf (every 0x3FD9DB23#32) (minimumf g (every 0x40E00000#32))))))))

/-- Which entries lie in a block in use. -/
def used (B : IVec S32 32) : IVec S288x512x1024 1 :=
  broadcastInDim S288x512x1024 ![0, 1, 2] bcast_S288x1x1_S288x512x1024_0_1_2 (broadcastInDim S288x1x1 ![0] bcast_S288_S288x1x1_0
    (cmpi .slt (iotaInDim S288 32 0) (broadcastInDim S288 ![] bcast_S_S288 (shapeCast S_ (extractStridedSlice S1 ![31] B slices_S32_S1_31) shapeCasts_S1_S_))))

/-- The reference's result from the table of block ends and the table of experts. -/
def out (B : IVec S32 32) (e : IVec S288 32) (x : FVec F S147456x1024 .f32) (wg : FVec F S2x32x1024x1024 .f32) (bg : FVec F S2x32x1024 .f32)
    (wu : FVec F S2x32x1024x1024 .f32) (bu : FVec F S2x32x1024 .f32) (wd : FVec F S2x32x1024x1024 .f32) (bd : FVec F S2x32x1024 .f32) :
    FVec F S147456x1024 .f32 :=
  shapeCast S147456x1024 (select (used B)
    (lin e (act (lin e (shapeCast S288x512x1024 x shapeCasts_S147456x1024_S288x512x1024) wg bg)
      (lin e (shapeCast S288x512x1024 x shapeCasts_S147456x1024_S288x512x1024) wu bu)) wd bd) (every 0x00000000#32)) shapeCasts_S288x512x1024_S147456x1024

attribute [local irreducible] Host.reduceWindow Host.reduce Host.divsi Host.remsi signi Host.gather

set_option maxHeartbeats 4000000 in
/-- The reference's result is that function of its arguments. -/
theorem res_eq (m : (ℓ : Loc nD τ sig) → Buf (Elt F) ℓ) (c : Dev nD) :
    Cert.ReferenceIdeal.Value.res_main_v122 m c = out (blkEnd (m ((c.tc : Thread nD τ).loc main_arg0)))
      (expertOf (blkEnd (m ((c.tc : Thread nD τ).loc main_arg0))) (iotaInDim S288 32 0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Cert.ReferenceIdeal.Value.res_main_v122 out lin wOf bOf act used every start expertOf blkEnd nBlk
  rfl

/-! ## At an entry -/

open Cert.KernelIdeal.Experts (mlpAt linAt actAt expertOf_toNat_lt)

theorem start_apply (e : IVec S288 32) (b : Fin 288) (h : (e (ix1 b)).toNat < 32) : start e (ix2 b 0) = e (ix1 b) := by
  unfold start
  pointwise
  have hc := BitVec.toInt_eq_toNat_cond (e (ix1 b))
  have hn : ¬ IntOp.cmpi .slt (e (ix1 b)) 0#32 = 1#1 := fun hh => by
    have hh := IntOp.cmpi_slt.1 hh
    have h0 : (0#32 : BitVec 32).toInt = 0 := by decide
    split at hc <;> omega
  exact if_neg hn

theorem gather3_apply {α : Type} (x : S32x1024x1024.Idx → α) (i : IVec S288x1 32) (b : Fin 288) (k f : Fin 1024) (h : (i (ix2 b 0)).toNat < 32) :
    Host.gather gather_S32x1024x1024_S288x1_S288x1024x1024_12_0_n_n_0_1_110241024 x i (ix3 b k f) = x (ix3 ⟨(i (ix2 b 0)).toNat, h⟩ k f) := by
  unfold Host.gather
  refine congrArg x (funext fun a => Fin.ext ?_)
  match a with
  | ⟨0, _⟩ =>
    have hs : gather_S32x1024x1024_S288x1_S288x1024x1024_12_0_n_n_0_1_110241024.siIdx (ix3 b k f) ⟨0, by decide⟩ = ix2 b 0 := by
      funext a; match a with
      | ⟨0, _⟩ => rfl
      | ⟨1, _⟩ => rfl
    show min (i (gather_S32x1024x1024_S288x1_S288x1024x1024_12_0_n_n_0_1_110241024.siIdx (ix3 b k f) ⟨0, by decide⟩)).toInt.toNat (32 - 1) + 0 + 0 = _
    rw [hs]
    have hc := BitVec.toInt_eq_toNat_cond (i (ix2 b 0))
    show _ = (i (ix2 b 0)).toNat
    split at hc <;> omega
  | ⟨1, _⟩ => exact Nat.zero_add _
  | ⟨2, _⟩ => exact Nat.zero_add _

theorem gather2_apply {α : Type} (x : S32x1024.Idx → α) (i : IVec S288x1 32) (b : Fin 288) (f : Fin 1024) (h : (i (ix2 b 0)).toNat < 32) :
    Host.gather gather_S32x1024_S288x1_S288x1024_1_0_n_n_0_1_11024 x i (ix2 b f) = x (ix2 ⟨(i (ix2 b 0)).toNat, h⟩ f) := by
  unfold Host.gather
  refine congrArg x (funext fun a => Fin.ext ?_)
  match a with
  | ⟨0, _⟩ =>
    have hs : gather_S32x1024_S288x1_S288x1024_1_0_n_n_0_1_11024.siIdx (ix2 b f) ⟨0, by decide⟩ = ix2 b 0 := by
      funext a; match a with
      | ⟨0, _⟩ => rfl
      | ⟨1, _⟩ => rfl
    show min (i (gather_S32x1024_S288x1_S288x1024_1_0_n_n_0_1_11024.siIdx (ix2 b f) ⟨0, by decide⟩)).toInt.toNat (32 - 1) + 0 + 0 = _
    rw [hs]
    have hc := BitVec.toInt_eq_toNat_cond (i (ix2 b 0))
    show _ = (i (ix2 b 0)).toNat
    split at hc <;> omega
  | ⟨1, _⟩ => exact Nat.zero_add _

theorem wOf_apply (e : IVec S288 32) (W : FVec Ideal S2x32x1024x1024 .f32) (b : Fin 288) (k f : Fin 1024) (h : (e (ix1 b)).toNat < 32) :
    wOf e W (ix3 b k f) = W (ix4 0 ⟨(e (ix1 b)).toNat, h⟩ k f) := by
  unfold wOf
  have hs := start_apply e b h
  rw [gather3_apply _ _ _ _ _ (by rw [hs]; exact h)]
  simp only [hs]
  pointwise

theorem bOf_apply (e : IVec S288 32) (W : FVec Ideal S2x32x1024 .f32) (b : Fin 288) (r : Fin 512) (f : Fin 1024) (h : (e (ix1 b)).toNat < 32) :
    bOf e W (ix3 b r f) = W (ix3 0 ⟨(e (ix1 b)).toNat, h⟩ f) := by
  unfold bOf
  have hs := start_apply e b h
  pointwise
  rw [gather2_apply _ _ _ _ (by rw [hs]; exact h)]
  simp only [hs]
  pointwise

theorem lin_apply (e : IVec S288 32) (x : FVec Ideal S288x512x1024 .f32) (W : FVec Ideal S2x32x1024x1024 .f32) (bb : FVec Ideal S2x32x1024 .f32)
    (b : Fin 288) (r : Fin 512) (f : Fin 1024) (h : (e (ix1 b)).toNat < 32) :
    lin e x W bb (ix3 b r f) = linAt (fun k => x (ix3 b r k)) (fun k f => W (ix4 0 ⟨(e (ix1 b)).toNat, h⟩ k f)) (fun f => bb (ix3 0 ⟨(e (ix1 b)).toNat, h⟩ f)) f := by
  unfold lin linAt
  pointwise
  simp only [wOf_apply e W b _ f h, bOf_apply e bb b r f h]

theorem act_apply (g u : FVec Ideal S288x512x1024 .f32) (y : S288x512x1024.Idx) : act g u y = actAt (g y) (u y) := by
  unfold act actAt every KernelIdeal.Experts.cst
  pointwise

/-- One entry of the reference's result: the row through the block's expert in a block in use, zero in the others. -/
theorem out_apply (B : IVec S32 32) (e : IVec S288 32) (x : FVec Ideal S147456x1024 .f32) (wg : FVec Ideal S2x32x1024x1024 .f32) (bg : FVec Ideal S2x32x1024 .f32)
    (wu : FVec Ideal S2x32x1024x1024 .f32) (bu : FVec Ideal S2x32x1024 .f32) (wd : FVec Ideal S2x32x1024x1024 .f32) (bd : FVec Ideal S2x32x1024 .f32)
    (b : Fin 288) (r : Fin 512) (R : Fin 147456) (hR : R.val = b.val * 512 + r.val) (q : Fin 1024) (h : (e (ix1 b)).toNat < 32) :
    out B e x wg bg wu bu wd bd (ix2 R q) = Scalar.select (IntOp.cmpi .slt (BitVec.ofNat 32 b.val) (B (ix1 31)))
      (mlpAt (fun k => x (ix2 R k)) (fun k f => wg (ix4 0 ⟨(e (ix1 b)).toNat, h⟩ k f)) (fun f => bg (ix3 0 ⟨(e (ix1 b)).toNat, h⟩ f))
        (fun k f => wu (ix4 0 ⟨(e (ix1 b)).toNat, h⟩ k f)) (fun f => bu (ix3 0 ⟨(e (ix1 b)).toNat, h⟩ f))
        (fun k f => wd (ix4 0 ⟨(e (ix1 b)).toNat, h⟩ k f)) (fun f => bd (ix3 0 ⟨(e (ix1 b)).toNat, h⟩ f)) q) 0 := by
  unfold out used every mlpAt
  pointwise
  have h1 : (⟨R.val / 512, by omega⟩ : Fin 288) = b := Fin.ext (by show R.val / 512 = b.val; omega)
  have h2 : (⟨R.val % 512, by omega⟩ : Fin 512) = r := Fin.ext (by show R.val % 512 = r.val; omega)
  rw [h1, h2, show R.val / 512 = b.val by omega]
  simp only [lin_apply _ _ _ _ b r _ h, act_apply]
  pointwise
  have h3 : (⟨b.val * 512 + r.val, by omega⟩ : Fin 147456) = R := Fin.ext hR.symm
  simp only [h3]

end Cert.ReferenceIdeal.Experts

end
-- ==== Proof.Value.lean ====
/- The kernel's result over the reals is the reference's. -/
module

public import proofs.«01_k».proof.Proof.Run
public import proofs.«01_k».proof.Proof.RefValue
public import Idealize.ShloMosaic.Lib.Pipeline.Value

@[expose] public section

set_option maxRecDepth 16384

noncomputable section

namespace Cert.Experts

open Cert.KernelIdeal Cert.KernelIdeal.Gen Cert.KernelIdeal.Experts
open Idealize.ShloMosaic Idealize.ShloMosaic.TcCoe Idealize.SL.Sem

theorem mlpAt_congr {x x' : Fin 1024 → EReal} {wg wg' wu wu' wd wd' : Fin 1024 → Fin 1024 → EReal} {bg bg' bu bu' bd bd' : Fin 1024 → EReal}
    (h0 : ∀ k, x k = x' k) (h1 : ∀ k f, wg k f = wg' k f) (h2 : ∀ f, bg f = bg' f) (h3 : ∀ k f, wu k f = wu' k f) (h4 : ∀ f, bu f = bu' f)
    (h5 : ∀ k f, wd k f = wd' k f) (h6 : ∀ f, bd f = bd' f) (q : Fin 1024) : mlpAt x wg bg wu bu wd bd q = mlpAt x' wg' bg' wu' bu' wd' bd' q := by
  obtain rfl := funext h0; obtain rfl := funext fun k => funext (h1 k); obtain rfl := funext h2; obtain rfl := funext fun k => funext (h3 k)
  obtain rfl := funext h4; obtain rfl := funext fun k => funext (h5 k); obtain rfl := funext h6
  rfl

/-- The number of blocks in use is where the last expert's blocks end. -/
theorem nb_eq (x : IVec S32 32) : nb x = blkEnd x (Idealize.ShloMosaic.ix1 31) := by
  unfold nb nUsed
  generalize blkEnd x = B
  refine congrArg B (funext fun a => Fin.ext ?_)
  match a with
  | ⟨0, _⟩ => rfl

attribute [local irreducible] blockE blockI nUsed blkEnd expertOf

variable (m : (ℓ : Loc nD τ sig) → Buf (Elt Ideal) ℓ) (hx : 1 ≤ (nb (X m)).toInt)

/-- The expert of block `b`. -/
abbrev eOf (b : Fin 288) : BitVec 32 := expertOf (blkEnd (X m)) (iotaInDim S288 32 0) (Idealize.ShloMosaic.ix1 b)

theorem eOf_lt (b : Fin 288) : (eOf m b).toNat < 32 := expertOf_toNat_lt _ _ _

/-- At a block in use the kernel's table names the block's expert. -/
theorem ex_eq (t : Fin (cfgA m hx).N) (b : Fin 288) (hb : b.val = t.val) (h : (t.val : ℤ) < (nb (X m)).toInt) : ex m hx t = eOf m b := by
  have hp : pt (crd m hx t) = Idealize.ShloMosaic.ix1 b := by
    funext a; apply Fin.ext
    match a with
    | ⟨0, _⟩ => exact (crd_val m hx t).trans hb.symm
  show blockE (X m) (pt (crd m hx t)) = _
  rw [hp, blockE]
  refine expertOf_congr _ _ _ _ ?_
  rw [blockI_eq (X m) hx _ (by show ((b.val : ℕ) : ℤ) < _; rw [hb]; exact h)]
  rfl

theorem bI_eq (t : Fin (cfgA m hx).N) (h : (t.val : ℤ) < (nb (X m)).toInt) : (blockI (X m) (pt (crd m hx t))).toNat = t.val := by
  have ht : t.val < 288 := lt_of_lt_of_eq t.isLt N_0
  have hc : ((pt (crd m hx t)) 0).val = t.val := crd_val m hx t
  rw [blockI_eq (X m) hx _ (by rw [hc]; exact h), hc, BitVec.toNat_ofNat]
  omega

section entries
variable (t : Fin (cfgA m hx).N) (b : Fin 288) (hb : b.val = t.val) (h : (t.val : ℤ) < (nb (X m)).toInt) (c : Dev nD)
include hb h

theorem x_at (r : Fin 512) (R : Fin 147456) (hR : R.val = b.val * 512 + r.val) (k : Fin 1024) :
    (iblk m hx c (0 : Fin 8) t (ix2 r k) : EReal) = m ((c : Thread nD τ).loc main_arg1) (ix2 R k) := by
  refine (congrArg (V m c main_arg1) (emb_s0 m hx t (ix2 r k))).trans ?_
  rw [V_arg1]
  refine congrArg (m ((c : Thread nD τ).loc main_arg1)) (funext fun a => Fin.ext ?_)
  match a with
  | ⟨0, _⟩ =>
    show (blockI (X m) (pt (crd m hx t))).toNat * 512 + r.val = R.val
    rw [bI_eq m hx t h, hR, hb]
  | ⟨1, _⟩ => rfl

theorem w_idx (k f : Fin 1024) : widx (ex m hx t) (blockE_lt _ _) (ix4 0 0 k f) = ix4 0 ⟨(eOf m b).toNat, eOf_lt m b⟩ k f := by
  rw [widx_congr _ (eOf_lt m b) (ex_eq m hx t b hb h)]
  funext a
  match a with
  | ⟨0, _⟩ => rfl
  | ⟨1, _⟩ => rfl
  | ⟨2, _⟩ => rfl
  | ⟨3, _⟩ => rfl

theorem b_idx (f : Fin 1024) : bidx (ex m hx t) (blockE_lt _ _) (ix4 0 0 0 f) = ix4 0 ⟨(eOf m b).toNat, eOf_lt m b⟩ 0 f := by
  have he := ex_eq m hx t b hb h
  funext a
  match a with
  | ⟨0, _⟩ => rfl
  | ⟨1, _⟩ => exact Fin.ext (by show (ex m hx t).toNat = (eOf m b).toNat; rw [he])
  | ⟨2, _⟩ => rfl
  | ⟨3, _⟩ => rfl

theorem wg_at (k f : Fin 1024) : (iblk m hx c (1 : Fin 8) t (ix4 0 0 k f) : EReal) = m ((c : Thread nD τ).loc main_arg2) (ix4 0 ⟨(eOf m b).toNat, eOf_lt m b⟩ k f) :=
  (iblk_1 m hx c t _).trans (by rw [w_idx m hx t b hb h, V_arg2])

theorem wu_at (k f : Fin 1024) : (iblk m hx c (3 : Fin 8) t (ix4 0 0 k f) : EReal) = m ((c : Thread nD τ).loc main_arg4) (ix4 0 ⟨(eOf m b).toNat, eOf_lt m b⟩ k f) :=
  (iblk_3 m hx c t _).trans (by rw [w_idx m hx t b hb h, V_arg4])

theorem wd_at (k f : Fin 1024) : (iblk m hx c (5 : Fin 8) t (ix4 0 0 k f) : EReal) = m ((c : Thread nD τ).loc main_arg6) (ix4 0 ⟨(eOf m b).toNat, eOf_lt m b⟩ k f) :=
  (iblk_5 m hx c t _).trans (by rw [w_idx m hx t b hb h, V_arg6])

omit hb h in
theorem bias_cast (A : FVec Ideal S2x32x1024 .f32) (e : Fin 32) (f : Fin 1024) :
    shapeCast S2x32x1x1024 A shapeCasts_S2x32x1024_S2x32x1x1024 (ix4 0 e 0 f) = A (ix3 0 e f) := by
  pointwise

theorem bg_at (f : Fin 1024) : (iblk m hx c (2 : Fin 8) t (ix4 0 0 0 f) : EReal) = m ((c : Thread nD τ).loc main_arg3) (ix3 0 ⟨(eOf m b).toNat, eOf_lt m b⟩ f) :=
  (congrArg (V m c main_v34) (emb_b2 m hx t _)).trans (by rw [b_idx m hx t b hb h, V_v34]; exact bias_cast _ _ _)

theorem bu_at (f : Fin 1024) : (iblk m hx c (4 : Fin 8) t (ix4 0 0 0 f) : EReal) = m ((c : Thread nD τ).loc main_arg5) (ix3 0 ⟨(eOf m b).toNat, eOf_lt m b⟩ f) :=
  (congrArg (V m c main_v35) (emb_b4 m hx t _)).trans (by rw [b_idx m hx t b hb h, V_v35]; exact bias_cast _ _ _)

theorem bd_at (f : Fin 1024) : (iblk m hx c (6 : Fin 8) t (ix4 0 0 0 f) : EReal) = m ((c : Thread nD τ).loc main_arg7) (ix3 0 ⟨(eOf m b).toNat, eOf_lt m b⟩ f) :=
  (congrArg (V m c main_v36) (emb_b6 m hx t _)).trans (by rw [b_idx m hx t b hb h, V_v36]; exact bias_cast _ _ _)

end entries

/-- The reference's function of the arguments the memory holds. -/
def ref (c : Dev nD) : FVec Ideal S147456x1024 .f32 :=
  Cert.ReferenceIdeal.Experts.out (F := Ideal) (blkEnd (X m)) (expertOf (blkEnd (X m)) (iotaInDim S288 32 0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))

/-- What the body leaves at a point is the reference's block. -/
theorem outAt_eq (c : Dev nD) (t : Fin (cfgA m hx).N) (r : Fin 512) (q : Fin 1024) (R : Fin 147456) (hR : R.val = t.val * 512 + r.val) :
    (outAt m hx c t (ix2 r q) : EReal) = ref m c (ix2 R q) := by
  have ht : t.val < 288 := lt_of_lt_of_eq t.isLt N_0
  have hti : (BitVec.ofNat 32 t.val).toInt = (t.val : ℤ) := by
    rw [BitVec.toInt_eq_toNat_cond, BitVec.toNat_ofNat]
    split <;> omega
  unfold ref
  rw [Cert.ReferenceIdeal.Experts.out_apply _ _ _ _ _ _ _ _ _ ⟨t.val, ht⟩ r R hR q (eOf_lt m ⟨t.val, ht⟩), ← nb_eq]
  rw [outAt, wordOf_eq]
  by_cases h : (t.val : ℤ) < (nb (X m)).toInt
  · have h2 : k0_cond2 (crd m hx t) (nb (X m)) = 1#1 := (cond2_iff _ _).2 (by rw [crd_val]; exact h)
    have h3 : IntOp.cmpi .slt (BitVec.ofNat 32 t.val) (nb (X m)) = 1#1 := IntOp.cmpi_slt.2 (by rw [hti]; exact h)
    rw [outBlk, if_pos h2, h3]
    refine (stored_apply _ _ _ _ _ _ _ r q).trans ?_
    exact mlpAt_congr (x_at m hx t ⟨t.val, ht⟩ rfl h c r R hR) (wg_at m hx t ⟨t.val, ht⟩ rfl h c) (bg_at m hx t ⟨t.val, ht⟩ rfl h c)
      (wu_at m hx t ⟨t.val, ht⟩ rfl h c) (bu_at m hx t ⟨t.val, ht⟩ rfl h c) (wd_at m hx t ⟨t.val, ht⟩ rfl h c) (bd_at m hx t ⟨t.val, ht⟩ rfl h c) q
  · have h2 : ¬ k0_cond2 (crd m hx t) (nb (X m)) = 1#1 := fun hh => h (by have := (cond2_iff _ _).1 hh; rw [crd_val] at this; exact this)
    have h3 : ¬ IntOp.cmpi .slt (BitVec.ofNat 32 t.val) (nb (X m)) = 1#1 := fun hh => h (by have := IntOp.cmpi_slt.1 hh; rw [hti] at this; exact this)
    rw [outBlk, if_neg h2]
    exact (zero_apply r q).trans (if_neg h3).symm

/-- Every point writes its block back. -/
theorem flush7 (t : Fin (cfgA m hx).N) : ((cfgA m hx).win (7 : Fin 8)).flush t = true := by
  have ht : t.val < 288 := lt_of_lt_of_eq t.isLt N_0
  show (true && (decide (t.val + 1 = (cfgA m hx).N) || decide (∃ h : t.val + 1 < (cfgA m hx).N, _ ≠ _))) = true
  rw [Bool.true_and, Bool.or_eq_true, decide_eq_true_iff, decide_eq_true_iff]
  by_cases hl : t.val + 1 = (cfgA m hx).N
  · exact .inl hl
  · have hl' : t.val + 1 < (cfgA m hx).N := lt_of_le_of_ne t.isLt hl
    refine .inr ⟨hl', fun e => ?_⟩
    have e0 : (BitVec.ofNat 32 (crd m hx ⟨t.val + 1, hl'⟩ 0).val).toNat = (BitVec.ofNat 32 (crd m hx t 0).val).toNat := congrFun e (0 : Fin 2)
    rw [crd_val, crd_val, BitVec.toNat_ofNat, BitVec.toNat_ofNat] at e0
    have : t.val + 1 < 288 := lt_of_lt_of_eq hl' N_0
    dsimp only at e0
    omega

/-- The result array ends holding the reference's function of the arguments. -/
theorem arr7 (c : Dev nD) : (dats m hx 0 c).arrAt (7 : Fin 8) (cfgA m hx).N = ref m c := by
  refine (dats m hx 0 c).arrAt_eq_of_cover (7 : Fin 8) (ref m c) (fun t _ => ?_) fun i => ?_
  · have ht : t.val < 288 := lt_of_lt_of_eq t.isLt N_0
    funext y
    show (outAt m hx c t y : EReal) = ref m c ((((cfgA m hx).win (7 : Fin 8)).blk t).view.emb y)
    rw [emb_o7]
    obtain ⟨r, q, rfl⟩ : ∃ (r : Fin 512) (q : Fin 1024), y = ix2 r q := ⟨y 0, y 1, eq_ix2 y⟩
    have hs : sidx t.val ht (ix2 r q) = ix2 (⟨t.val * 512 + r.val, by omega⟩ : Fin 147456) q := by
      funext a
      match a with
      | ⟨0, _⟩ => rfl
      | ⟨1, _⟩ => rfl
    rw [hs]
    exact outAt_eq m hx c t r q _ rfl
  · have hi : (i (0 : Fin 2)).val < 147456 := (i (0 : Fin 2)).isLt
    refine ⟨⟨(i (0 : Fin 2)).val / 512, lt_of_lt_of_eq (by omega : _ < 288) N_0.symm⟩, flush7 m hx _, ?_⟩
    have he := emb_o7 m hx ⟨(i (0 : Fin 2)).val / 512, lt_of_lt_of_eq (by omega : _ < 288) N_0.symm⟩ (ix2 (⟨(i (0 : Fin 2)).val % 512, by omega⟩ : Fin 512) (i (1 : Fin 2) : Fin 1024))
    have hs : sidx ((i (0 : Fin 2)).val / 512) (by omega) (ix2 (⟨(i (0 : Fin 2)).val % 512, by omega⟩ : Fin 512) (i (1 : Fin 2) : Fin 1024)) = i := by
      funext a
      apply Fin.ext
      match a with
      | ⟨0, _⟩ => show (i (0 : Fin 2)).val / 512 * 512 + (i (0 : Fin 2)).val % 512 = (i (0 : Fin 2)).val; omega
      | ⟨1, _⟩ => rfl
    have hm := View.emb_mem_set (((cfgA m hx).win (7 : Fin 8)).blk ⟨(i (0 : Fin 2)).val / 512, lt_of_lt_of_eq (by omega : _ < 288) N_0.symm⟩).view
      (ix2 (⟨(i (0 : Fin 2)).val % 512, by omega⟩ : Fin 512) (i (1 : Fin 2) : Fin 1024))
    rw [he.trans hs] at hm
    exact hm

end Cert.Experts

end
-- ==== Proof.lean ====
module

public import proofs.«01_k».proof.Proof.Gen.Kernel2.Frame
public import proofs.«01_k».proof.Proof.Gen.Kernel2Ideal.Frame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.InSame
public import proofs.«01_k».proof.Defs
public import proofs.«01_k».proof.Proof.Run
public import proofs.«01_k».proof.Proof.Same
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_some_block_used
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem Cert.KernelIdeal.Experts

attribute [local irreducible] Host.reduceWindow Host.divsi Host.remsi signi

/-- The precondition says that the number of blocks in use is at least one. -/
theorem used_of_pre {F : FTy → Type} [FloatOps F] (x : IVec Cert.KernelIdeal.S32 32) (a1 : FVec F Cert.KernelIdeal.S147456x1024 .f32)
    (a2 a4 a6 : FVec F Cert.KernelIdeal.S2x32x1024x1024 .f32) (a3 a5 a7 : FVec F Cert.KernelIdeal.S2x32x1024 .f32)
    (h : Cert.Pre_some_block_used.fn (F := F) x a1 a2 a3 a4 a5 a6 a7 = fun _ => 1#1) : 1 ≤ (nb x).toInt := by
  have h0 := congrFun h (fun a => a.elim0)
  have h1 : IntOp.cmpi .sge (nUsed x _) 1#32 = 1#1 := h0
  rw [nUsed_eq, IntOp.cmpi_sge] at h1
  exact h1

theorem used_kernel (m : (ℓ : Loc Cert.Kernel.nD Cert.Kernel.τ Cert.Kernel.sig) → Buf (Elt Bits) ℓ) (hp : Cert.Pre_Kernel m) :
    1 ≤ (nb (X (F := Bits) m)).toInt := used_of_pre (F := Bits) _ _ _ _ _ _ _ _ (hp 0)

set_option maxHeartbeats 4000000 in
theorem frame_kernel : Cert.quiescent_Kernel := fun m ρ hp => by
  have h := frame (F := Bits) m ρ (used_kernel m hp)
  rw [← defs_same, ← main_same] at h
  exact h

theorem frame_kernelIdeal : Cert.quiescent_KernelIdeal := fun m ρ hp =>
  frame (F := Ideal) m ρ (used_of_pre (F := Ideal) _ _ _ _ _ _ _ _ (hp 0))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_some_block_used := fun m ρ _ => frame_referenceIdeal m ρ trivial

/-- Over the reals the kernel ends with the reference's result. -/
theorem algebraic : Cert.algebraic_KernelIdeal_ReferenceIdeal := fun m g m' g' hp ha => by
  have hx := used_of_pre (F := Ideal) _ _ _ _ _ _ _ _ (hp 0)
  refine ⟨fun c => Cert.Experts.ref m c, ?_, ?_⟩
  · refine (θ_run Cert.KernelIdeal.defs _ _).mono (fun r h c => ?_) (run_all (F := Ideal) m g hx)
    exact ⟨(h.1 c).1.trans (Cert.Experts.arr7 m hx c), (h.1 c).2⟩
  · refine (θ_run Cert.ReferenceIdeal.defs _ _).mono (fun r h c => ?_) (Cert.ReferenceIdeal.Value.run (F := Ideal) m' g')
    refine ⟨(h c).1.trans ?_, (h c).2⟩
    obtain rfl : c = 0 := Subsingleton.elim _ _
    obtain ⟨h0, h1, h2, h3, h4, h5, h6, h7⟩ := ha 0
    rw [Cert.ReferenceIdeal.Experts.res_eq m' 0, h0, h1, h2, h3, h4, h5, h6, h7]
    rfl

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The name put for the keys' scale denotes the root's inverse. -/
theorem preserves2 : Cert.preserves_Kernel2_Kernel2Ideal :=
  IdealRules.named_const.statement Cert.Kernel2Ideal.κ "key_scale" .f32 0x3DB504F3#32 (((Real.sqrt 128)⁻¹ : ℝ) : EReal) rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_some_block_used.Gen.facts,
  frame_kernel, frame_kernelIdeal, frame_referenceIdeal, frame_referenceIdeal_pre, frame_kernel2, frame_kernel2Ideal, frame_reference2Ideal,
  trivial, algebraic, preserves2, Cert.InProj.algebraic⟩

end Cert.Proof

end
